-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨4, ![2, 128, 128, 64]⟩ ⟨4, ![2, 1024, 128, 64]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨4, ![2, 128, 128, 128]⟩ ⟨4, ![2, 1024, 128, 128]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S2x128x128x64 : Shape := ⟨4, ![2, 128, 128, 64]⟩
abbrev S64x128 : Shape := ⟨2, ![64, 128]⟩
abbrev S_ : Shape := ⟨0, ![]⟩

class Facts : Prop where
  bcast_S_S2x128x128x64 : S_.BroadcastsInDim S2x128x128x64 (![] : Fin 0 → Fin S2x128x128x64.rank)
  reducesTo_S2x128x128x64_S_d0_1_2_3 : S2x128x128x64.ReducesTo [0, 1, 2, 3] S_
  h_S_ : 0 < S_.numel

variable [Facts]

def fn {F : FTy → Type} [FloatOps F] (main_arg0 : FVec F S2x128x128x64 .f32) (main_arg1 : FVec F S64x128 .f32) : IVec S_ 1 :=
  let main_v0 : FVec F S2x128x128x64 .f32 := Host.absf main_arg0
  let main_cst : FVec F S_ .f32 := constant S_ .f32 0x7F800000#32
  let main_v1 : FVec F S2x128x128x64 .f32 := broadcastInDim S2x128x128x64 ![] bcast_S_S2x128x128x64 main_cst
  let main_v2 : IVec S2x128x128x64 1 := cmpf .olt main_v0 main_v1
  let main_c : IVec S_ 1 := constantI S_ 1 1#1
  let main_v3 : IVec S_ 1 := (fun x v => Host.reduce IntOp.andi x v reducesTo_S2x128x128x64_S_d0_1_2_3 h_S_) main_v2 main_c
  main_v3
-- ==== Pre_x_finite_ReferenceIdeal.lean ====
abbrev S2x1024x128x64 : Shape := ⟨4, ![2, 1024, 128, 64]⟩
abbrev S64x128 : Shape := ⟨2, ![64, 128]⟩
abbrev S_ : Shape := ⟨0, ![]⟩

class Facts : Prop where
  bcast_S_S2x1024x128x64 : S_.BroadcastsInDim S2x1024x128x64 (![] : Fin 0 → Fin S2x1024x128x64.rank)
  reducesTo_S2x1024x128x64_S_d0_1_2_3 : S2x1024x128x64.ReducesTo [0, 1, 2, 3] S_
  h_S_ : 0 < S_.numel

variable [Facts]

def fn {F : FTy → Type} [FloatOps F] (main_arg0 : FVec F S2x1024x128x64 .f32) (main_arg1 : FVec F S64x128 .f32) : IVec S_ 1 :=
  let main_v0 : FVec F S2x1024x128x64 .f32 := Host.absf main_arg0
  let main_cst : FVec F S_ .f32 := constant S_ .f32 0x7F800000#32
  let main_v1 : FVec F S2x1024x128x64 .f32 := broadcastInDim S2x1024x128x64 ![] bcast_S_S2x1024x128x64 main_cst
  let main_v2 : IVec S2x1024x128x64 1 := cmpf .olt main_v0 main_v1
  let main_c : IVec S_ 1 := constantI S_ 1 1#1
  let main_v3 : IVec S_ 1 := (fun x v => Host.reduce IntOp.andi x v reducesTo_S2x1024x128x64_S_d0_1_2_3 h_S_) main_v2 main_c
  main_v3
-- ==== Kernel.lean ====
abbrev S2x128x128x64 : Shape := ⟨4, ![2, 128, 128, 64]⟩
abbrev S64x128 : Shape := ⟨2, ![64, 128]⟩
abbrev S2x128x128x128 : Shape := ⟨4, ![2, 128, 128, 128]⟩
abbrev S2x2x16x128x128 : Shape := ⟨5, ![2, 2, 16, 128, 128]⟩
abbrev S3x4x64 : Shape := ⟨3, ![3, 4, 64]⟩
abbrev S8 : Shape := ⟨1, ![8]⟩
abbrev S2 : Shape := ⟨1, ![2]⟩
abbrev S3 : Shape := ⟨1, ![3]⟩
abbrev S1 : Shape := ⟨1, ![1]⟩
abbrev S_ : Shape := ⟨0, ![]⟩
abbrev S2x16x128x64 : Shape := ⟨4, ![2, 16, 128, 64]⟩
abbrev S2x64 : Shape := ⟨2, ![2, 64]⟩
abbrev S4x64 : Shape := ⟨2, ![4, 64]⟩
abbrev S1x4x64 : Shape := ⟨3, ![1, 4, 64]⟩
abbrev S2x1x1x64 : Shape := ⟨4, ![2, 1, 1, 64]⟩
abbrev S4096x64 : Shape := ⟨2, ![4096, 64]⟩
abbrev S4096x128 : Shape := ⟨2, ![4096, 128]⟩
abbrev S2x16x128x128 : Shape := ⟨4, ![2, 16, 128, 128]⟩
abbrev S1x2x16x128x128 : Shape := ⟨5, ![1, 2, 16, 128, 128]⟩

abbrev nBuf : Space → Nat
  | .hbm => 3
  | .vmem => 5
  | .smem => 0
  | _ => 0

abbrev bufTy : (tb : Table) → Fin (tcTables nBuf tb) → BufTy
  | .hbm, ⟨0, _⟩ => ⟨S2x128x128x64, .f32⟩
  | .hbm, ⟨1, _⟩ => ⟨S64x128, .f32⟩
  | .hbm, ⟨2, _⟩ => ⟨S2x128x128x128, .f32⟩
  | .local _ .vmem, ⟨0, _⟩ => ⟨S64x128, .f32⟩
  | .local _ .vmem, ⟨1, _⟩ => ⟨S2x128x128x64, .f32⟩
  | .local _ .vmem, ⟨2, _⟩ => ⟨S2x2x16x128x128, .f32⟩
  | .local _ .vmem, ⟨3, _⟩ => ⟨S3x4x64, .f32⟩
  | .local _ .vmem, ⟨4, _⟩ => ⟨S3x4x64, .f32⟩
  | _, _ => ⟨S2x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v36 : BitVec 32 := Scalar.xori v2 c1_i32_58
  let c1_i32_60 : BitVec 32 := 1#32
  let v37 : BitVec 32 := Scalar.muli v36 c1_i32_60
  let v38 : BitVec 32 := Scalar.addi c0_i32_61 v37
  v38.toNat
def k0_dev2 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_62 : BitVec 32 := 3#32
  let v39 : BitVec 32 := Scalar.xori v2 c3_i32_62
  let c1_i32_64 : BitVec 32 := 1#32
  let v40 : BitVec 32 := Scalar.muli v39 c1_i32_64
  let v41 : BitVec 32 := Scalar.addi c0_i32_65 v40
  v41.toNat
def k0_dev3 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v42 : BitVec 32 := Scalar.xori v2 c4_i32_66
  let c1_i32_68 : BitVec 32 := 1#32
  let v43 : BitVec 32 := Scalar.muli v42 c1_i32_68
  let v44 : BitVec 32 := Scalar.addi c0_i32_69 v43
  v44.toNat
def k0_dev4 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_182 : BitVec 32 := 1#32
  let v124 : BitVec 32 := Scalar.xori v2 c1_i32_182
  let c1_i32_190 : BitVec 32 := 1#32
  let v128 : BitVec 32 := Scalar.muli v124 c1_i32_190
  let v129 : BitVec 32 := Scalar.addi c0_i32_191 v128
  v129.toNat
def k0_dev5 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_209 : BitVec 32 := 3#32
  let v149 : BitVec 32 := Scalar.xori v2 c3_i32_209
  let c1_i32_216 : BitVec 32 := 1#32
  let v153 : BitVec 32 := Scalar.muli v149 c1_i32_216
  let v154 : BitVec 32 := Scalar.addi c0_i32_217 v153
  v154.toNat
def k0_dev6 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_235 : BitVec 32 := 4#32
  let v174 : BitVec 32 := Scalar.xori v2 c4_i32_235
  let c1_i32_242 : BitVec 32 := 1#32
  let v178 : BitVec 32 := Scalar.muli v174 c1_i32_242
  let v179 : BitVec 32 := Scalar.addi c0_i32_243 v178
  v179.toNat
abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x1024x128x64 : Shape := ⟨4, ![2, 1024, 128, 64]⟩
abbrev S64x128 : Shape := ⟨2, ![64, 128]⟩
abbrev S_ : Shape := ⟨0, ![]⟩
abbrev S2x64 : Shape := ⟨2, ![2, 64]⟩
abbrev S2x1x1x64 : Shape := ⟨4, ![2, 1, 1, 64]⟩
abbrev S262144x64 : Shape := ⟨2, ![262144, 64]⟩
abbrev S262144x128 : Shape := ⟨2, ![262144, 128]⟩
abbrev S2x1024x128x128 : Shape := ⟨4, ![2, 1024, 128, 128]⟩

abbrev nBuf : Space → Nat
  | .hbm => 49
  | .vmem => 0
  | .smem => 0
  | _ => 0

abbrev bufTy : (tb : Table) → Fin (tcTables nBuf tb) → BufTy
  | .hbm, ⟨0, _⟩ => ⟨S2x1024x128x64, .f32⟩
  | .hbm, ⟨1, _⟩ => ⟨S64x128, .f32⟩
  | .hbm, ⟨2, _⟩ => ⟨S_, .f32⟩
  | .hbm, ⟨3, _⟩ => ⟨S2x64, .f32⟩
  | .hbm, ⟨4, _⟩ => ⟨S2x1x1x64, .f32⟩
  | .hbm, ⟨5, _⟩ => ⟨S_, .f32⟩
  | .hbm, ⟨6, _⟩ => ⟨S2x1x1x64, .f32⟩
  | .hbm, ⟨7, _⟩ => ⟨S2x1x1x64, .f32⟩
  | .hbm, ⟨8, _⟩ => ⟨S_, .i32⟩
  | .hbm, ⟨9, _⟩ => ⟨S_, .f32⟩
  | .hbm, ⟨10, _⟩ => ⟨S2x64, .f32⟩
  | .hbm, ⟨11, _⟩ => ⟨S2x1x1x64, .f32⟩
  | .hbm, ⟨12, _⟩ => ⟨S_, .f32⟩
  | .hbm, ⟨13, _⟩ => ⟨S2x1x1x64, .f32⟩
  | .hbm, ⟨14, _⟩ => ⟨S2x1x1x64, .f32⟩
  | .hbm, ⟨15, _⟩ => ⟨S2x1024x128x64, .f32⟩
  | .hbm, ⟨16, _⟩ => ⟨S2x1024x128x64, .f32⟩
  | .hbm, ⟨17, _⟩ => ⟨S2x1024x128x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x64, .f32⟩
  | .hbm, ⟨23, _⟩ => ⟨S2x1x1x64, .f32⟩
  | .hbm, ⟨24, _⟩ => ⟨S2x1x1x64, .f32⟩
  | .hbm, ⟨25, _⟩ => ⟨S2x1x1x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x64, .f32⟩
  | .hbm, ⟨31, _⟩ => ⟨S2x1x1x64, .f32⟩
  | .hbm, ⟨32, _⟩ => ⟨S2x1024x128x64, .f32⟩
  | .hbm, ⟨33, _⟩ => ⟨S2x1024x128x64, .f32⟩
  | .hbm, ⟨34, _⟩ => ⟨S_, .f32⟩
  | .hbm, ⟨35, _⟩ => ⟨S2x1x1x64, .f32⟩
  | .hbm, ⟨36, _⟩ => ⟨S2x1x1x64, .f32⟩
  | .hbm, ⟨37, _⟩ => ⟨S2x1x1x64, .f32⟩
  | .hbm, ⟨38, _⟩ => ⟨S2x1024x128x64, .f32⟩
  | .hbm, ⟨39, _⟩ => ⟨S2x1024x128x64, .f32⟩
  | .hbm, ⟨40, _⟩ => ⟨S2x1024x128x64, .f32⟩
  | .hbm, ⟨41, _⟩ => ⟨S2x1024x128x64, .f32⟩
  | .hbm, ⟨42, _⟩ => ⟨S_, .f32⟩
  | .hbm, ⟨43, _⟩ => ⟨S2x1024x128x64, .f32⟩
  | .hbm, ⟨44, _⟩ => ⟨S2x1024x128x64, .f32⟩
  | .hbm, ⟨45, _⟩ => ⟨S2x1024x128x64, .f32⟩
  | .hbm, ⟨46, _⟩ => ⟨S262144x64, .f32⟩
  | .hbm, ⟨47, _⟩ => ⟨S262144x128, .f32⟩
  | .hbm, ⟨48, _⟩ => ⟨S2x1024x128x128, .f32⟩
  | _, _ => ⟨S2x1024x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]
-- ==== Proof.ProtocolKernelIdeal.lean ====
/-
# The exchange's protocol

Eight devices, every device `c` with three mates `c xor 1`, `c xor 3`, `c xor 4`. The kernel signals the barrier
semaphore of its three mates and waits for their three signals; then, round after round `j = 0, 1, 2`, it stores its
running statistics into slot `j` of its send buffer, copies that slot into slot `j` of mate `j`'s receive buffer, waits
for the copy coming the other way and adds what has arrived.

Every cell has one round:
* the barrier cell of `c` has three duties of one unit, duty `j` paid by mate `j`, whose signal hands over slot `j` of
  its receive buffer (so a copy never lands in memory whose owner has not entered the kernel);
* the send cell `j` of `c` has one duty, paid by the copy's reading: it gives the send slot back;
* the receive cell `j` of `c` has one duty, paid by mate `j`'s copy: it gives the receive slot back, holding the mate's
  statistics after `j` rounds.
A device owes units to cells of level 1 (barrier) and 2, 3, 4 (receive cell of round 0, 1, 2), and waits only below what
it owes.
-/
module

public import proofs.«01_k».proof.Defs
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Ring
public import Idealize.ShloMosaic.Lib.Tactic

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's component, the exchange's rounds, the local copies' counters -/

/-- The ghost state of the exchange, with three names for duties, -/
abbrev UB : Type := URounds (GSem nD τ sig) (Fin 3)
/-- and all of it, with the pipeline's. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev 𝒱₀ : Variants := Variants.none

instance er_landsIn : (ER : Emb UB (MT nD τ sig Unit (Elt F) ℕ UU ℕ)).LandsIn (upEmb : UEmb _ (MT nD τ sig Unit (Elt F) ℕ UU ℕ)) := by
  unfold ER embR; infer_instance

variable (m : (ℓ : Loc nD τ sig) → Buf (Elt F) ℓ)

/-! ## The mates -/

/-- The bit masks of the three rounds. -/
def mask : Fin 3 → Nat := ![1, 3, 4]

set_option backward.proofsInPublic true in
/-- Device `c`'s mate in round `j`. -/
def mate (j : Fin 3) (c : Dev nD) : Dev nD := ⟨(c.val ^^^ mask j) % 8, Nat.mod_lt _ (by decide)⟩

/-- A mate's mate is the device itself. -/
theorem mate_mate (j : Fin 3) (c : Dev nD) : mate j (mate j c) = c := by revert j c; decide +kernel

/-- The device numbers the kernel computes: three signals, three copies. -/
theorem dev1_eq (c : Dev nD) : (⟨k0_dev1 c, k0_dev1_lt c⟩ : Dev nD) = mate 0 c := by revert c; decide +kernel
theorem dev2_eq (c : Dev nD) : (⟨k0_dev2 c, k0_dev2_lt c⟩ : Dev nD) = mate 1 c := by revert c; decide +kernel
theorem dev3_eq (c : Dev nD) : (⟨k0_dev3 c, k0_dev3_lt c⟩ : Dev nD) = mate 2 c := by revert c; decide +kernel
theorem dev4_eq (c : Dev nD) : (⟨k0_dev4 c, k0_dev4_lt c⟩ : Dev nD) = mate 0 c := by revert c; decide +kernel
theorem dev5_eq (c : Dev nD) : (⟨k0_dev5 c, k0_dev5_lt c⟩ : Dev nD) = mate 1 c := by revert c; decide +kernel
theorem dev6_eq (c : Dev nD) : (⟨k0_dev6 c, k0_dev6_lt c⟩ : Dev nD) = mate 2 c := by revert c; decide +kernel

/-- Pairing every device with its mate of round `j`. -/
def pairing (j : Fin 3) : Dev nD ≃ Dev nD := ⟨mate j, mate j, mate_mate j, mate_mate j⟩

/-! ## The buffers -/

abbrev xM : Memref sig .tc .hbm S2x128x128x64 .f32 := Memref.whole main_arg0
abbrev oM : Memref sig .tc .hbm S2x128x128x128 .f32 := Memref.whole main_v1
abbrev vM : Memref sig .tc .vmem S2x128x128x64 .f32 := Memref.whole cc0_scratch0
abbrev bM : Memref sig .tc .vmem S2x2x16x128x128 .f32 := Memref.whole cc0_scratch1
abbrev sM : Memref sig .tc .vmem S3x4x64 .f32 := Memref.whole cc0_scratch2
abbrev rM : Memref sig .tc .vmem S3x4x64 .f32 := Memref.whole cc0_scratch3

/-- A slot lies in its buffer of three. -/
theorem slotInb (j : Fin 3) : ∀ a, (![j.val, 0, 0] : Fin 3 → Nat) a + S1x4x64.size a ≤ S3x4x64.size a := by
  revert j; decide +kernel

/-- Slot `j` of a buffer of three slots, as a rectangle; -/
abbrev slotRect (j : Fin 3) : Rect S3x4x64 := Rect.unit (s := S3x4x64) ![j.val, 0, 0] S1x4x64.size (slotInb j)
/-- and as the array a copy reads or writes. -/
abbrev slot (M : Memref sig .tc .vmem S3x4x64 .f32) (j : Fin 3) : Memref sig .tc .vmem S4x64 .f32 :=
  (M.slice (slotRect j) (fun _ => rfl)).squeeze S4x64 squeezes_S1x4x64_S4x64

/-- The bytes one copy moves, as the semaphores count them. -/
abbrev N : ℕ := (slot rM 0).view.dmaCredit
/-- A copy of a slot counts for something. -/
theorem N_pos : 0 < N := View.dmaCredit_pos _ (by decide)
/-- It counts the same in each slot. -/
theorem credit_slot (j : Fin 3) : (slot rM j).view.dmaCredit = N := rfl

/-! ## The semaphores and their cells -/

abbrev barS : Sem sig := (SemArray.scalar (sig.barrier 0 rfl) : Sems sig S_).sem
abbrev sendS (j : Fin 3) : DmaSem sig := ⟨11 + j.val, by have := j.isLt; show 11 + j.val < 17; omega⟩
abbrev recvS (j : Fin 3) : DmaSem sig := ⟨14 + j.val, by have := j.isLt; show 14 + j.val < 17; omega⟩

theorem send_slice0 : ((cc0_scratch6.slice (Rect.unit (s := S3) ![0] S1.size inb_S3_S1_0)).squeeze S_ squeezes_S1_S_).sem = sendS 0 := rfl
theorem send_slice1 : ((cc0_scratch6.slice (Rect.unit (s := S3) ![1] S1.size inb_S3_S1_1)).squeeze S_ squeezes_S1_S_).sem = sendS 1 := rfl
theorem send_slice2 : ((cc0_scratch6.slice (Rect.unit (s := S3) ![2] S1.size inb_S3_S1_2)).squeeze S_ squeezes_S1_S_).sem = sendS 2 := rfl
theorem recv_slice0 : ((cc0_scratch7.slice (Rect.unit (s := S3) ![0] S1.size inb_S3_S1_0)).squeeze S_ squeezes_S1_S_).sem = recvS 0 := rfl
theorem recv_slice1 : ((cc0_scratch7.slice (Rect.unit (s := S3) ![1] S1.size inb_S3_S1_1)).squeeze S_ squeezes_S1_S_).sem = recvS 1 := rfl
theorem recv_slice2 : ((cc0_scratch7.slice (Rect.unit (s := S3) ![2] S1.size inb_S3_S1_2)).squeeze S_ squeezes_S1_S_).sem = recvS 2 := rfl

/-- A device's barrier cell, and its cells for sending and receiving in a round. -/
abbrev barCell (c : Dev nD) : GSem nD τ sig := ((c : Thread nD τ), .reg barS)
abbrev sendCell (j : Fin 3) (c : Dev nD) : GSem nD τ sig := ((c : Thread nD τ), .dma (sendS j))
abbrev recvCell (j : Fin 3) (c : Dev nD) : GSem nD τ sig := ((c : Thread nD τ), .dma (recvS j))

/-! ## What travels -/

/-- A piece lies in the block. -/
theorem chunkInb (k : Fin 8) : ∀ a, (![0, 16 * k.val, 0, 0] : Fin 4 → Nat) a + S2x16x128x64.size a ≤ S2x128x128x64.size a := by
  revert k; decide +kernel

/-- Chunk `k` of an input block: rows `16 k … 16 k + 15`. -/
abbrev chunkRect (k : Fin 8) : Rect S2x128x128x64 := Rect.unit (s := S2x128x128x64) ![0, 16 * k.val, 0, 0] S2x16x128x64.size (chunkInb k)

/-- Chunk `k` of device `c`'s block of `x`. -/
def chunk (c : Dev nD) (k : Fin 8) : Vec F S2x16x128x64 .f32 :=
  (xM.slice (chunkRect k) (fun _ => rfl)).view.read (Elt F) (m ((c : Thread nD τ).loc main_arg0))

/-- The statistics of device `c`'s own block: per channel the sum and the sum of squares. -/
def own (c : Dev nD) : FVec F S4x64 .f32 :=
  k0_pay7 (k0_pay1 (chunk m c 0)) (k0_pay2 (chunk m c 1)) (k0_pay3 (chunk m c 2)) (k0_pay4 (chunk m c 3)) (k0_pay5 (chunk m c 4))
    (k0_pay6 (chunk m c 5)) (chunk m c 6) (chunk m c 7)
/-- The statistics after one round, after two and after all three. -/
def after1 (c : Dev nD) : FVec F S4x64 .f32 := k0_pay9 (own m c) (k0_pay8 (own m (mate 0 c)))
def after2 (c : Dev nD) : FVec F S4x64 .f32 := k0_pay11 (after1 m c) (k0_pay8 (after1 m (mate 1 c)))
def after3 (c : Dev nD) : FVec F S4x64 .f32 := k0_pay13 (after2 m c) (k0_pay8 (after2 m (mate 2 c)))

/-- What device `c` sends in round `j`. -/
def sent (j : Fin 3) (c : Dev nD) : Vec F S1x4x64 .f32 := k0_pay8 ((![own m c, after1 m c, after2 m c] : Fin 3 → FVec F S4x64 .f32) j)

/-! ## The slots as assertions -/

/-- Device `c`'s slot `j` of buffer `M`, at contents `f`. -/
def slotPts (M : Memref sig .tc .vmem S3x4x64 .f32) (j : Fin 3) (c : Dev nD) (f : Buf (Elt F) ((slot M j).view.loc (c : Thread nD τ))) : sProp 𝕄 :=
  (slot M j).view.loc (c : Thread nD τ) ↦[(slot M j).view.set]{fullShare} f

/-- What a load of slot `j` reads off contents `f`. -/
abbrev slotRead (M : Memref sig .tc .vmem S3x4x64 .f32) (j : Fin 3) (c : Dev nD) (f : Buf (Elt F) ((slot M j).view.loc (c : Thread nD τ))) : Vec F S1x4x64 .f32 :=
  M.view.readAt (Elt F) (slotRect j).toLoadRect f

omit [FloatOps F] in
instance slotPts_storable (M j) (c : Dev nD) (f) : BI.Storable (upEmb : UEmb _ 𝕄) (slotPts (F := F) M j c f) := by
  unfold slotPts; infer_instance

/-- Handed over by mate `j`'s signal: its receive slot `j`, at whatever it holds, and that its receive cell is at round 0. -/
def barPay (j : Fin 3) (c : Dev nD) : sProp 𝕄 := iprop((∃ f, slotPts rM j (mate j c) f) ∗ reached ER (recvCell j (mate j c)) 0)
/-- Given back by a copy's reading: the send slot. -/
def sendPay (j : Fin 3) (c : Dev nD) : sProp 𝕄 := iprop(∃ f, slotPts (F := F) sM j c f)
/-- Given back by the arriving copy: the receive slot, holding what the mate sent. -/
def recvPay (j : Fin 3) (c : Dev nD) : sProp 𝕄 :=
  iprop(∃ f, slotPts rM j c f ∗ ⌜slotRead rM j c f = sent m j (mate j c)⌝)

/-! ## The schedule -/

set_option backward.proofsInPublic true in
/-- The round a send or a receive semaphore serves. -/
def turn (q : DmaSem sig) : Fin 3 := ⟨(q.val + 1) % 3, Nat.mod_lt _ (by decide)⟩
/-- The round of a send semaphore, -/
theorem turn_send (j : Fin 3) : turn (sendS j) = j := by revert j; decide
/-- and of a receive semaphore. -/
theorem turn_recv (j : Fin 3) : turn (recvS j) = j := by revert j; decide

/-- The one round of the exchange (see the head of the file). -/
def xchg : Rounds.Schedule (GSem nD τ sig) (Fin 3) 𝕄 where
  duties g r := if r = 0 ∧ g.1.2 = .tc then (match g.2 with
    | .reg _ => Finset.univ
    | .dma q => if 11 ≤ q.val then {0} else ∅) else ∅
  unitless _ := False
  amount g _ _ := match g.2 with
    | .reg _ => 1
    | .dma _ => N
  payload g _ d := match g.2 with
    | .reg _ => barPay d g.1.1
    | .dma q => if q.val < 14 then sendPay (turn q) g.1.1 else recvPay m (turn q) g.1.1
  amount_pos g _ _ _ := by
    rcases g with ⟨t, s | q⟩
    · exact Nat.one_pos
    · exact N_pos

instance xchg_storable (g : GSem nD τ sig) (r : ℕ) (d : Fin 3) :
    BI.Storable (upEmb : UEmb _ 𝕄) ((xchg (F := F) m).payload g r d) := by
  rcases g with ⟨t, s | q⟩
  · show BI.Storable upEmb (barPay d t.1)
    unfold barPay; infer_instance
  · show BI.Storable upEmb (if q.val < 14 then sendPay (turn q) t.1 else recvPay m (turn q) t.1)
    unfold sendPay recvPay
    split <;> infer_instance

section Tables
variable (c : Dev nD) (j d : Fin 3)

/-- What the protocol says at each kind of cell: the duties, what each counts, what a round waits for, and what it brings. -/
theorem duties_bar : (xchg (F := F) m).duties (barCell c) 0 = Finset.univ := by dsimp only [xchg]; exact if_pos ⟨rfl, rfl⟩
theorem duties_send : (xchg (F := F) m).duties (sendCell j c) 0 = {0} := by
  dsimp only [xchg]; rw [if_pos ⟨rfl, rfl⟩]; exact if_pos (Nat.le_add_right 11 j.val)
theorem duties_recv : (xchg (F := F) m).duties (recvCell j c) 0 = {0} := by
  dsimp only [xchg]; rw [if_pos ⟨rfl, rfl⟩]; exact if_pos (show 11 ≤ 14 + j.val by omega)
/-- No cell has a second round. -/
theorem duties_later (g : GSem nD τ sig) : ∀ r, 1 ≤ r → (xchg (F := F) m).duties g r = ∅ :=
  fun r hr => if_neg fun h => by omega

theorem amount_bar : (xchg (F := F) m).amount (barCell c) 0 d = 1 := rfl
theorem amount_send : (xchg (F := F) m).amount (sendCell j c) 0 d = N := rfl
theorem amount_recv : (xchg (F := F) m).amount (recvCell j c) 0 d = N := rfl

theorem expect_bar : (xchg (F := F) m).expect (barCell c) 0 = 3 := by
  unfold Schedule.expect Schedule.amountOf; rw [duties_bar]; rfl
theorem expect_send : (xchg (F := F) m).expect (sendCell j c) 0 = N := by
  unfold Schedule.expect Schedule.amountOf; rw [duties_send, Finset.sum_singleton, amount_send]
theorem expect_recv : (xchg (F := F) m).expect (recvCell j c) 0 = N := by
  unfold Schedule.expect Schedule.amountOf; rw [duties_recv, Finset.sum_singleton, amount_recv]

theorem payload_bar : (xchg (F := F) m).payload (barCell c) 0 d = barPay d c := rfl
theorem payload_send : (xchg (F := F) m).payload (sendCell j c) 0 d = sendPay j c := by
  refine (if_pos (show 11 + j.val < 14 by have := j.isLt; omega)).trans ?_
  rw [turn_send]
theorem payload_recv : (xchg (F := F) m).payload (recvCell j c) 0 d = recvPay m j c := by
  refine (if_neg (show ¬ 14 + j.val < 14 by omega)).trans ?_
  rw [turn_recv]

/-- What the barrier wait returns: the three mates' receive slots. -/
theorem rest_bar : bigSep ((xchg (F := F) m).duties (barCell c) 0 \ ∅) (fun d => (xchg (F := F) m).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton]
  rfl
/-- A round of a send cell brings the slot sent; -/
theorem rest_send : bigSep ((xchg (F := F) m).duties (sendCell j c) 0 \ ∅) (fun d => (xchg (F := F) m).payload (sendCell j c) 0 d) = sendPay j c := by
  rw [Finset.sdiff_empty, duties_send, bigSep_singleton, payload_send]
/-- one of a receive cell brings the slot received. -/
theorem rest_recv : bigSep ((xchg (F := F) m).duties (recvCell j c) 0 \ ∅) (fun d => (xchg (F := F) m).payload (recvCell j c) 0 d) = recvPay m j c := by
  rw [Finset.sdiff_empty, duties_recv, bigSep_singleton, payload_recv]

end Tables

/-! ## What a device owes, and when it may wait -/

/-- Device `c`'s debts: to its mates' receive cells, then to their barrier cells; the next to be paid is the last summand. -/
def E₂ (c : Dev nD) : CellTallies nD τ sig Unit := tallyAt (recvCell 2 (mate 2 c)) () N
def E₁ (c : Dev nD) : CellTallies nD τ sig Unit := E₂ c + tallyAt (recvCell 1 (mate 1 c)) () N
def E₀ (c : Dev nD) : CellTallies nD τ sig Unit := E₁ c + tallyAt (recvCell 0 (mate 0 c)) () N
def B₂ (c : Dev nD) : CellTallies nD τ sig Unit := E₀ c + tallyAt (barCell (mate 2 c)) () 1
def B₁ (c : Dev nD) : CellTallies nD τ sig Unit := B₂ c + tallyAt (barCell (mate 1 c)) () 1
def O₀ (c : Dev nD) : CellTallies nD τ sig Unit := B₁ c + tallyAt (barCell (mate 0 c)) () 1

/-- A cell of a main core has one index, other cells none. -/
def L (g : GSem nD τ sig) : Finset Unit := if g.1.2 = .tc then {()} else ∅
/-- Barrier cells are at level 1, the receive cells of round `j` at level `2 + j`, every other cell at 0. -/
def level : SemLoc sig → ℕ
  | .reg _ => 1
  | .dma q => if 14 ≤ q.val then q.val - 12 else 0
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl

/-- Every debt in `O` is to a device's main core, at a level above `n`. -/
def Above (n : ℕ) (O : CellTallies nD τ sig Unit) : Prop := ∀ g u, 0 < O g u → g.1.2 = .tc ∧ n < lv g u

theorem Above.tally {n k : ℕ} {c : Dev nD} {sm : SemLoc sig} (h : n < level sm) :
    Above n (tallyAt ((c : Thread nD τ), sm) () k) := by
  intro g u hg
  rw [tallyAt_apply] at hg
  by_cases e : g = ((c : Thread nD τ), sm) ∧ u = ()
  · rw [e.1]; exact ⟨rfl, h⟩
  · rw [if_neg e] at hg; exact absurd hg (Nat.lt_irrefl 0)

theorem Above.add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0

theorem Above.zero (n : ℕ) : Above n 0 := fun _ _ h => absurd h (Nat.lt_irrefl 0)

theorem above_E₂ (c : Dev nD) : Above 3 (E₂ c) := .tally (by decide)
theorem above_E₁ (c : Dev nD) : Above 2 (E₁ c) := .add (.tally (by decide)) (.tally (by decide))
theorem above_E₀ (c : Dev nD) : Above 1 (E₀ c) := .add (.add (.tally (by decide)) (.tally (by decide))) (.tally (by decide))
theorem above_O₀ (c : Dev nD) : Above 0 (O₀ c) :=
  .add (.add (.add (fun g u h => ⟨(above_E₀ c g u h).1, Nat.lt_of_succ_lt (above_E₀ c g u h).2⟩) (.tally (by decide))) (.tally (by decide))) (.tally (by decide))

/-- A device may wait on a cell of its own whose level is not above `n` while all its debts are above `n`. -/
theorem mayWait_of {n : ℕ} {O : CellTallies nD τ sig Unit} (h : Above n O) (c : Dev nD) (sm : SemLoc sig) (hs : level sm ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      have e := (h g u hg).1
      rw [show L g = {()} from if_pos e]; exact Finset.mem_singleton_self _)
    (fun p hp => by rw [Finset.mem_singleton.mp hp]; exact hs)
    (fun g u hg => (h g u hg).2)

end Cert.KernelIdeal.Exchange
-- ==== Proof.StepsKernelIdeal.lean ====
/- The remote steps of the exchange, one rule per kind of effect, each stated at a device `c` and a round `j`:
   the greeting (a signal to a mate's barrier), the wait for the three greetings, and of one round the store into
   the send slot, the copy to the mate, the wait for the mate's copy, the load of what arrived, and the wait for
   the own copy's reading. -/
module

public import proofs.«01_k».proof.Proof.ProtocolKernelIdeal

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 7 → ℕ)

/-! ## Seven cells on every device -/

/-- The places of a device's cells among its seven: its barrier, its send cells, its receive cells. -/
abbrev barIx : Fin 7 := 0
/-- The number of the send cell of a round, -/
def sendIx (j : Fin 3) : Fin 7 := ⟨1 + j.val, by omega⟩
/-- and of its receive cell. -/
def recvIx (j : Fin 3) : Fin 7 := ⟨4 + j.val, by omega⟩

/-- What device `c` knows of round `j` throughout: the invariants of its own two cells and of its mate's barrier and
    receive cells, and that these cells are at round 0. -/
def known (j : Fin 3) (c : Dev nD) : sProp 𝕄 :=
  iprop(cellInv ER (xchg m) (K (c, sendIx j)) (sendCell j c) ∗ cellInv ER (xchg m) (K (c, recvIx j)) (recvCell j c)
    ∗ cellInv ER (xchg m) (K (mate j c, barIx)) (barCell (mate j c)) ∗ cellInv ER (xchg m) (K (mate j c, recvIx j)) (recvCell j (mate j c))
    ∗ reached ER (barCell (mate j c)) 0 ∗ reached ER (sendCell j c) 0 ∗ reached ER (recvCell j c) 0)

/-- What is known for a round is kept. -/
instance known_persistent (j : Fin 3) (c : Dev nD) : BI.Persistent (known m K j c) := by unfold known; infer_instance

/-- Device `c` owes `O`, whatever it has waited on. -/
def owing (c : Dev nD) (O : CellTallies nD τ sig Unit) : sProp 𝕄 := iprop(∃ W, owes (c : Thread nD τ) O W)

/-- Send slot `j` of device `c` holding what round `j` sends. -/
def sendReady (j : Fin 3) (c : Dev nD) : sProp 𝕄 :=
  iprop(∃ f, slotPts (F := F) sM j c f ∗ ⌜slotRead sM j c f = sent m j c⌝)

/-- Greeting mate `j`: the receive slot `j` is handed over with the signal. -/
theorem wp_greet (j : Fin 3) (c : Dev nD) {α : Type} {Q : α → sProp 𝕄} {k : PUnit → Prog (TpuEff nD τ sig (Elt F) Λ₀ .tc) α} {n : ℤ} (hn : n = 1)
    {O O' : CellTallies nD τ sig Unit} (hO : O' = O + tallyAt (barCell (mate j c)) () 1) :
    iprop(known m K j c ∗ owing c O' ∗ dutyTok ER (barCell (mate j c)) 0 j ∗ (∃ f, slotPts (F := F) rM j c f))
      ⊢ iprop((owing c O -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal (mate j c : Thread nD τ) barS n) k) Q) := by
  subst hn
  unfold known owing
  iintro ⟨⟨-, -, #HI, -, #Hr, -, #Hrv⟩, ⟨%W, HO⟩, Ht, ⟨%f, Hs⟩⟩ Hk
  have hd : j ∈ (xchg (F := F) m).duties (barCell (mate j c)) 0 := by rw [duties_bar]; exact Finset.mem_univ _
  iapply (Rounds.wp_signal 𝒱₀ ER (xchg m) (c : Thread nD τ) none (dst := (mate j c : Thread nD τ)) (κ := K (mate j c, barIx))
      (k' := 1) hd (amount_bar m (mate j c) j) () O hO (W := W)) $$ [HO Ht Hs]
  rotate_left
  · iintro HO; iapply Hk; iexists _; iexact HO
  isplitr; · iexact HI
  isplitl [HO]; · iexact HO
  isplitl [Ht]; · iexact Ht
  isplitl [Hs]
  · rw [payload_bar]; unfold barPay; rw [mate_mate]
    isplitl [Hs]; · iexists f; iexact Hs
    iexact Hrv
  · iexact Hr

/-- The wait for the three greetings brings the mates' receive slots. -/
theorem wp_greeted (c : Dev nD) {α : Type} {Q : α → sProp 𝕄} {k : PUnit → Prog (TpuEff nD τ sig (Elt F) Λ₀ .tc) α} {n : ℤ} (hn : n = 3)
    {O : CellTallies nD τ sig Unit} (hO : Above 1 O) :
    iprop(cellInv ER (xchg m) (K (c, barIx)) (barCell c) ∗ levAts L lv ∗ cred (tallyAt (barCell c) () 3) ∗ owing c O
        ∗ atPos ER (barCell c) 0 ∅ 0)
      ⊢ iprop(((owing c O ∗ atPos ER (barCell c) (0 + 1) ∅ 0
              ∗ barPay (F := F) 0 c ∗ barPay (F := F) 1 c ∗ barPay (F := F) 2 c)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS n) k) Q) := by
  subst hn
  unfold owing
  iintro ⟨#HI, #Hl, Hc, ⟨%W, HO⟩, Hat⟩ Hk
  iapply (Rounds.wp_wait_rest_token 𝒱₀ ER (xchg m) (c : Thread nD τ) none (κ := K (c, barIx))
      (wpE_semWait_eq 𝒱₀ (c : Thread nD τ) none Set.univ) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iapply (mayWait_of hO c (SemLoc.reg barS) (by decide)); iexact Hl
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

omit [FloatOps F] in
/-- A slot is what a load or a store through its rectangle touches. -/
theorem slot_set (M : Memref sig .tc .vmem S3x4x64 .f32) (j : Fin 3) : (slot M j).view.set = (M.access (slotRect j)).set := by
  show ((M.view.slice (slotRect j)).reshape _ _).set = _
  rw [View.set_reshape]

/-- A load of a slot, -/
theorem wp_slot_load (M : Memref sig .tc .vmem S3x4x64 .f32) (j : Fin 3) (c : Dev nD) {α : Type} {Q : α → sProp 𝕄}
    {hl : M.view.LoadsAt (slotRect j).toLoadRect} {k : Vec F S1x4x64 .f32 → Prog (TpuEff nD τ sig (Elt F) Λ₀ .tc) α}
    (f : Buf (Elt F) ((slot M j).view.loc (c : Thread nD τ))) :
    slotPts M j c f
      ⊢ iprop((slotPts M j c f -∗ wp frame (wpE (defs₀ (F := F)) 𝒱₀ (c : Thread nD τ) none) Set.univ (k (slotRead M j c f)) Q)
        -∗ wp frame (wpE (defs₀ (F := F)) 𝒱₀ (c : Thread nD τ) none) Set.univ (.op (.load M (slotRect j).toLoadRect hl) k) Q) :=
  wp_load 𝒱₀ (c : Thread nD τ) none Set.univ (m := M) (S := (slot M j).view.set) (r := (slotRect j).toLoadRect)
    (by rw [slot_set]; show M.view.setOn (slotRect j).set ⊆ (M.view.slice (slotRect j)).set; rw [View.set_slice]; exact Finset.Subset.refl _)

/-- and a store into one, which a load reads back. -/
theorem wp_slot_store (M : Memref sig .tc .vmem S3x4x64 .f32) (j : Fin 3) (c : Dev nD) {α : Type} {Q : α → sProp 𝕄} {w : Vec F S1x4x64 .f32}
    {hx : (M.access (slotRect j)).Stores Finset.univ} {hm : (Finset.univ : Finset (slotRect j).shape.Idx) = Finset.univ ∨ ∀ a, (slotRect j).stride a = 1}
    {k : PUnit → Prog (TpuEff nD τ sig (Elt F) Λ₀ .tc) α} (f : Buf (Elt F) ((slot M j).view.loc (c : Thread nD τ))) :
    slotPts M j c f
      ⊢ iprop(((∃ f', slotPts M j c f' ∗ ⌜slotRead M j c f' = w⌝) -∗ wp frame (wpE (defs₀ (F := F)) 𝒱₀ (c : Thread nD τ) none) Set.univ (k ⟨⟩) Q)
        -∗ wp frame (wpE (defs₀ (F := F)) 𝒱₀ (c : Thread nD τ) none) Set.univ (.op (.store M (slotRect j) w Finset.univ hx hm) k) Q) := by
  iintro Hs Hk
  iapply (wp_store 𝒱₀ (c : Thread nD τ) none Set.univ (S := (slot M j).view.set) (f := f) (by rw [slot_set]; exact Finset.Subset.refl _)) $$ [Hs]
  · unfold slotPts; iexact Hs
  iintro Hs
  iapply Hk
  iexists ((M.access (slotRect j)).write (Elt F) f w Finset.univ)
  isplitl [Hs]
  · unfold slotPts; iexact Hs
  · ipureintro; exact View.read_write_univ _ _

/-- A copy of slot `j` of one buffer into slot `j` of another carries over what a load reads. -/
theorem slot_copy (M M' : Memref sig .tc .vmem S3x4x64 .f32) (j : Fin 3) (c c' : Dev nD) (f : Buf (Elt F) ((slot M j).view.loc (c : Thread nD τ)))
    (f' : Buf (Elt F) ((slot M' j).view.loc (c' : Thread nD τ))) :
    slotRead M' j c' ((slot M' j).view.write (Elt F) f' ((slot M j).view.read (Elt F) f) Finset.univ) = slotRead M j c f := by
  have h : S4x64.numel = (slotRect j).shape.numel := (by decide : S4x64.numel = S1x4x64.numel)
  show (M'.view.slice (slotRect j)).read (Elt F) (((M'.view.slice (slotRect j)).reshape S4x64 h).write (Elt F) f'
    (((M.view.slice (slotRect j)).reshape S4x64 h).read (Elt F) f) Finset.univ) = (M.view.slice (slotRect j)).read (Elt F) f
  rw [View.write_reshape_univ, View.read_write_univ]
  funext x
  show (M.view.slice (slotRect j)).read (Elt F) f (Shape.reshapeEquiv h ((Shape.reshapeEquiv h).symm x)) = _
  rw [Equiv.apply_symm_apply]

/-- The copy of round `j` to mate `j`: it pays the own send cell and the mate's receive cell, and the credit to wait
    for the own reading comes back. -/
theorem wp_send (j : Fin 3) (c : Dev nD) {α : Type} {Q : α → sProp 𝕄} {k : PUnit → Prog (TpuEff nD τ sig (Elt F) Λ₀ .tc) α}
    {n : Dev nD} (hn : n = mate j c)
    {hsc : ((slot rM j : Memref sig (Dev.tc n : Thread nD τ).2.kind .vmem S4x64 .f32)).view.ref.isScScratch = false}
    {hsrc : (slot sM j).view.WordExact} {hdst : (slot rM j).view.WordExact}
    {hsem : DmaTarget.Typed .vmem (.dma (recvS j)) (.remote (Dev.tc n : Thread nD τ) (slot rM j) (.dma (sendS j)) hsc)}
    {O O' : CellTallies nD τ sig Unit} (hO : O' = O + tallyAt (recvCell j (mate j c)) () N) :
    iprop(known m K j c ∗ sendReady m j c ∗ barPay (F := F) j c ∗ owing c O'
        ∗ dutyTok ER (sendCell j c) 0 0 ∗ dutyTok ER (recvCell j (mate j c)) 0 0)
      ⊢ iprop(((cred (tallyAt (sendCell j c) () N) ∗ owing c O)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slot sM j) (.remote (Dev.tc n : Thread nD τ) (slot rM j) (.dma (sendS j)) hsc) (.dma (recvS j)) hsrc hdst hsem) k) Q) := by
  subst hn
  unfold known owing sendReady barPay
  iintro ⟨⟨#HIs, -, -, #HIr, -, #Hrs, -⟩, ⟨%f, Hf, %hf⟩, ⟨⟨%g, Hg⟩, #Hrr⟩, ⟨%W, HO⟩, Hts, Htr⟩ Hk
  iapply (Rounds.wp_send_pointsTo 𝒱₀ ER (xchg m) (c : Thread nD τ) none (κ₁ := K (c, sendIx j)) (κ₂ := K (mate j c, recvIx j))
    (r₁ := 0) (r₂ := 0) (d₁ := 0) (d₂ := 0) (fs := f) (fd := g)
    (by rw [duties_send]; exact Finset.mem_singleton_self _) (by rw [duties_recv]; exact Finset.mem_singleton_self _)
    () () N (show (slot rM j).view.amount (SemLoc.dma (recvS j)) = N from credit_slot j) (amount_send m c j 0) (amount_recv m (mate j c) j 0) O hO (W := W)
    (by
      rw [payload_send]; unfold sendPay slotPts
      iintro H; iexists f; iexact H)
    (by
      rw [payload_recv]; unfold recvPay
      iintro H
      iexists _
      isplitl [H]
      · unfold slotPts; iexact H
      · ipureintro; rw [mate_mate, slot_copy sM rM j c (mate j c) f g, hf])) $$ [Hf Hg HO Hts Htr]
  rotate_left
  · iintro ⟨Hc, HO⟩; iapply Hk
    isplitl [Hc]; · iexact Hc
    iexists _; iexact HO
  isplitr; · iexact HIs
  isplitr; · iexact HIr
  isplitl [Hf]; · unfold slotPts; iexact Hf
  isplitl [Hg]; · unfold slotPts; iexact Hg
  isplitl [HO]; · iexact HO
  isplitl [Hts]; · iexact Hts
  isplitr; · iexact Hrs
  isplitl [Htr]; · iexact Htr
  iexact Hrr

/-- The wait for mate `j`'s copy brings the receive slot back, holding what the mate sent. -/
theorem wp_arrived (j : Fin 3) (c : Dev nD) {α : Type} {Q : α → sProp 𝕄} {k : PUnit → Prog (TpuEff nD τ sig (Elt F) Λ₀ .tc) α}
    {src dst : Memref sig .tc .vmem S4x64 .f32} {hsrc : src.view.WordExact} {hdst : dst.view.WordExact} (hN : dst.view.dmaCredit = N)
    {O : CellTallies nD τ sig Unit} {n : ℕ} (hO : Above n O) (hn : level (SemLoc.dma (recvS j) : SemLoc sig) ≤ n) :
    iprop(known m K j c ∗ levAts L lv ∗ cred (tallyAt (recvCell j c) () N) ∗ owing c O ∗ atPos ER (recvCell j c) 0 ∅ 0)
      ⊢ iprop(((owing c O ∗ atPos ER (recvCell j c) (0 + 1) ∅ 0 ∗ recvPay m j c)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (recvS j) src dst hsrc hdst) k) Q) := by
  unfold known owing
  iintro ⟨⟨-, #HI, -⟩, #Hl, Hc, ⟨%W, HO⟩, Hat⟩ Hk
  iapply (Rounds.wp_wait_rest_token 𝒱₀ ER (xchg m) (c : Thread nD τ) none (κ := K (c, recvIx j))
      (wpE_waitDma2_eq 𝒱₀ (c : Thread nD τ) none Set.univ) (Set.mem_univ _) () (O := O) (W := W) (R := 0) (m := 0) (T := ∅)
      (by rw [expect_recv, Nat.zero_add, hN])) $$ [Hc HO Hat]
  · isplitr; · iexact HI
    rw [hN]
    isplitl [Hc]; · iexact Hc
    isplitl [HO]; · iexact HO
    isplitr; · iapply (mayWait_of hO c (SemLoc.dma (recvS j)) hn); iexact Hl
    iexact Hat
  iintro ⟨HO, Hat, -, Hpay⟩
  ihave Hp := (Entails.of_eq (rest_recv m c j)) $$ Hpay
  iapply Hk
  isplitl [HO]; · iexists _; iexact HO
  isplitl [Hat]; · iexact Hat
  iexact Hp

/-- The wait for the own copy's reading brings the send slot back. -/
theorem wp_sentAway (j : Fin 3) (c : Dev nD) {α : Type} {Q : α → sProp 𝕄} {k : PUnit → Prog (TpuEff nD τ sig (Elt F) Λ₀ .tc) α}
    {src dst : Memref sig .tc .vmem S4x64 .f32} {hsrc : src.view.WordExact} {hdst : dst.view.WordExact} (hN : dst.view.dmaCredit = N)
    :
    iprop(known m K j c ∗ levAts L lv ∗ cred (tallyAt (sendCell j c) () N) ∗ owing c 0 ∗ atPos ER (sendCell j c) 0 ∅ 0)
      ⊢ iprop(((owing c 0 ∗ atPos ER (sendCell j c) (0 + 1) ∅ 0 ∗ sendPay (F := F) j c)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sendS j) src dst hsrc hdst) k) Q) := by
  unfold known owing
  iintro ⟨⟨#HI, -⟩, #Hl, Hc, ⟨%W, HO⟩, Hat⟩ Hk
  iapply (Rounds.wp_wait_rest_token 𝒱₀ ER (xchg m) (c : Thread nD τ) none (κ := K (c, sendIx j))
      (wpE_waitDma2_eq 𝒱₀ (c : Thread nD τ) none Set.univ) (Set.mem_univ _) () (O := 0) (W := W) (R := 0) (m := 0) (T := ∅)
      (by rw [expect_send, Nat.zero_add, hN])) $$ [Hc HO Hat]
  · isplitr; · iexact HI
    rw [hN]
    isplitl [Hc]; · iexact Hc
    isplitl [HO]; · iexact HO
    isplitr; · iapply (mayWait_of (Above.zero 4) c (SemLoc.dma (sendS j)) (by revert j; decide)); iexact Hl
    iexact Hat
  iintro ⟨HO, Hat, -, Hpay⟩
  ihave Hp := (Entails.of_eq (rest_send m c j)) $$ Hpay
  iapply Hk
  isplitl [HO]; · iexists _; iexact HO
  isplitl [Hat]; · iexact Hat
  iexact Hp

/-! ## The slots' own steps -/

/-- A load of a free send slot reads something; -/
theorem wp_sendLoad (j : Fin 3) (c : Dev nD) {α : Type} {Q : α → sProp 𝕄} {k : Vec F S1x4x64 .f32 → Prog (TpuEff nD τ sig (Elt F) Λ₀ .tc) α}
    {hl : sM.view.LoadsAt (slotRect j).toLoadRect} :
    sendPay (F := F) j c
      ⊢ iprop((∀ v, sendPay (F := F) j c -∗ wp frame (wpE (defs₀ (F := F)) 𝒱₀ (c : Thread nD τ) none) Set.univ (k v) Q)
        -∗ wp frame (wpE (defs₀ (F := F)) 𝒱₀ (c : Thread nD τ) none) Set.univ (.op (.load sM (slotRect j).toLoadRect hl) k) Q) := by
  unfold sendPay
  iintro ⟨%f, Hs⟩ Hk
  iapply (wp_slot_load sM j c f) $$ Hs
  iintro Hs
  iapply Hk
  iexists f; iexact Hs

/-- a store of what round `j` sends makes it ready. -/
theorem wp_sendStore (j : Fin 3) (c : Dev nD) {α : Type} {Q : α → sProp 𝕄} {w : Vec F S1x4x64 .f32} (hw : w = sent m j c)
    {hx : (sM.access (slotRect j)).Stores Finset.univ} {hm : (Finset.univ : Finset (slotRect j).shape.Idx) = Finset.univ ∨ ∀ a, (slotRect j).stride a = 1}
    {k : PUnit → Prog (TpuEff nD τ sig (Elt F) Λ₀ .tc) α} :
    sendPay (F := F) j c
      ⊢ iprop((sendReady m j c -∗ wp frame (wpE (defs₀ (F := F)) 𝒱₀ (c : Thread nD τ) none) Set.univ (k ⟨⟩) Q)
        -∗ wp frame (wpE (defs₀ (F := F)) 𝒱₀ (c : Thread nD τ) none) Set.univ (.op (.store sM (slotRect j) w Finset.univ hx hm) k) Q) := by
  subst hw
  unfold sendPay sendReady
  iintro ⟨%f, Hs⟩ Hk
  iapply (wp_slot_store sM j c f) $$ Hs
  iexact Hk

/-- A load of the receive slot after the wait reads what the mate sent. -/
theorem wp_recvLoad (j : Fin 3) (c : Dev nD) {α : Type} {Q : α → sProp 𝕄} {k : Vec F S1x4x64 .f32 → Prog (TpuEff nD τ sig (Elt F) Λ₀ .tc) α}
    {hl : rM.view.LoadsAt (slotRect j).toLoadRect} :
    recvPay m j c
      ⊢ iprop((recvPay m j c -∗ wp frame (wpE (defs₀ (F := F)) 𝒱₀ (c : Thread nD τ) none) Set.univ (k (sent m j (mate j c))) Q)
        -∗ wp frame (wpE (defs₀ (F := F)) 𝒱₀ (c : Thread nD τ) none) Set.univ (.op (.load rM (slotRect j).toLoadRect hl) k) Q) := by
  unfold recvPay
  iintro ⟨%f, Hs, %hf⟩ Hk
  iapply (wp_slot_load rM j c f) $$ Hs
  iintro Hs
  rw [hf]
  iapply Hk
  iexists f
  isplitl [Hs]; · iexact Hs
  ipureintro; exact hf

end Cert.KernelIdeal.Exchange
-- ==== Proof.LocalKernelIdeal.lean ====
/- The local steps of the kernel, one rule per kind of effect, each stated at a chunk `k` or a slot `s`: the loads'
   starts and waits, the loads of a loaded chunk, the stores into an output slot, the copies out and their waits. -/
module

public import proofs.«01_k».proof.Proof.StepsKernelIdeal

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

local notation "𝕄" => MT nD τ sig Unit (Elt F) ℕ UU ℕ

variable (m : (ℓ : Loc nD τ sig) → Buf (Elt F) ℓ)

/-- The elements of an array of device `c`, at contents `f`. -/
def held {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

/-! ## The first copies -/

/-- The semaphore of the copy of chunk `k`. -/
abbrev loadS (k : Fin 8) : DmaSem sig := ⟨1 + k.val, by have := k.isLt; show 1 + k.val < 17; omega⟩
/-- Its level is at most 1. -/
theorem level_load (k : Fin 8) : level (SemLoc.dma (loadS k) : SemLoc sig) ≤ 1 := by revert k; decide
/-- Chunk `k` of the input block, and of its copy. -/
abbrev xC (k : Fin 8) : Memref sig .tc .hbm S2x16x128x64 .f32 := xM.slice (chunkRect k) (fun _ => rfl)
abbrev vC (k : Fin 8) : Memref sig .tc .vmem S2x16x128x64 .f32 := vM.slice (chunkRect k) (fun _ => rfl)

/-- The input chunk, as it was at the start. -/
def xPart (k : Fin 8) (c : Dev nD) : sProp 𝕄 := held (xC k) c (m ((c : Thread nD τ).loc main_arg0))

/-- Before chunk `k` is copied, while it is copied, and afterwards. -/
def loadIdle (k : Fin 8) (c : Dev nD) : sProp 𝕄 :=
  iprop(xPart m k c ∗ (∃ f, held (F := F) (vC k) c f) ∗ semVal ((c : Thread nD τ), .dma (loadS k)) 0)
def loadFlying (k : Fin 8) (c : Dev nD) : sProp 𝕄 :=
  iprop(∃ f, Flight countersEmb (c : Thread nD τ) (.dma (loadS k)) () (vC k).view.dmaCredit
    iprop(held (vC k) c ((vC k).view.write (Elt F) f (ReadAs.same.apply (chunk m c k)) Finset.univ) ∗ xPart m k c))
def loadDone (k : Fin 8) (c : Dev nD) : sProp 𝕄 :=
  iprop(xPart m k c ∗ (∃ f, held (vC k) c f ∗ ⌜(vC k).view.read (Elt F) f = chunk m c k⌝) ∗ semVal ((c : Thread nD τ), .dma (loadS k)) 0)

/-- Starting the copy of chunk `k`. -/
theorem wp_loadStart (k : Fin 8) (c : Dev nD) {α : Type} {Q : α → sProp 𝕄} {p : PUnit → Prog (TpuEff nD τ sig (Elt F) Λ₀ .tc) α}
    {hsrc : (xC k).view.WordExact} {hdst : (vC k).view.WordExact} {hsem : DmaTarget.Typed (nD := nD) (τ := τ) (p := .tc) .hbm (.dma (loadS k)) (.here (vC k))} :
    loadIdle m k c
      ⊢ iprop((loadFlying m k c -∗ wp frame (wpE (defs₀ (F := F)) 𝒱₀ (c : Thread nD τ) none) Set.univ (p ⟨⟩) Q)
        -∗ wp frame (wpE (defs₀ (F := F)) 𝒱₀ (c : Thread nD τ) none) Set.univ
            (.op (.enqueueDma (xC k) (.here (vC k)) (.dma (loadS k)) hsrc hdst hsem) p) Q) := by
  unfold loadIdle
  iintro ⟨Hx, ⟨%f, Hv⟩, Hs⟩ Hk
  iapply (Transfers.wp_dmaLocal countersEmb 𝒱₀ (c : Thread nD τ) none (Sd := (vC k).view.set) (fd := f) (fs := m ((c : Thread nD τ).loc main_arg0))
    () (vC k).view.dmaCredit rfl (View.dmaCredit_pos _ (by decide)) (Finset.Subset.refl _)) $$ [Hx Hv Hs]
  · isplitl [Hx]; · unfold xPart held; iexact Hx
    isplitl [Hv]; · unfold held; iexact Hv
    iexact Hs
  iintro Hf
  iapply Hk
  unfold loadFlying
  iexists f
  iexact Hf

/-- The wait for chunk `k`. -/
theorem wp_loadWait (k : Fin 8) (c : Dev nD) {α : Type} {Q : α → sProp 𝕄} {p : PUnit → Prog (TpuEff nD τ sig (Elt F) Λ₀ .tc) α}
    {src : Memref sig .tc .hbm S2x16x128x64 .f32} {hsrc : src.view.WordExact} {hdst : (vC k).view.WordExact}
    {O : CellTallies nD τ sig Unit} (hO : Above 1 O) :
    iprop(loadFlying m k c ∗ levAts L lv ∗ owing c O)
      ⊢ iprop(((loadDone m k c ∗ owing c O) -∗ wp frame (wpE (defs₀ (F := F)) 𝒱₀ (c : Thread nD τ) none) Set.univ (p ⟨⟩) Q)
        -∗ wp frame (wpE (defs₀ (F := F)) 𝒱₀ (c : Thread nD τ) none) Set.univ (.op (.waitDma2 (loadS k) src (vC k) hsrc hdst) p) Q) := by
  unfold loadFlying owing
  iintro ⟨⟨%f, Hf⟩, #Hl, ⟨%W, HO⟩⟩ Hk
  iapply (Transfers.wp_waitLocalO countersEmb 𝒱₀ (c : Thread nD τ) none () rfl) $$ [Hf HO]
  · isplitl [Hf]; · iexact Hf
    isplitl [HO]; · iexact HO
    iapply (mayWait_of hO c (SemLoc.dma (loadS k)) (level_load k)); iexact Hl
  iintro ⟨⟨Hv, Hx⟩, Hs, HO⟩
  iapply Hk
  isplitr [HO]
  · unfold loadDone
    isplitl [Hx]; · iexact Hx
    isplitl [Hv]
    · iexists _
      isplitl [Hv]; · iexact Hv
      ipureintro; exact View.read_write_univ _ _
    · iexact Hs
  · iexists _; iexact HO

/-- A load of chunk `k` reads it. -/
theorem wp_chunk (k : Fin 8) (c : Dev nD) {α : Type} {Q : α → sProp 𝕄} {p : Vec F S2x16x128x64 .f32 → Prog (TpuEff nD τ sig (Elt F) Λ₀ .tc) α}
    {hl : vM.view.LoadsAt (chunkRect k).toLoadRect} :
    loadDone m k c
      ⊢ iprop((loadDone m k c -∗ wp frame (wpE (defs₀ (F := F)) 𝒱₀ (c : Thread nD τ) none) Set.univ (p (chunk m c k)) Q)
        -∗ wp frame (wpE (defs₀ (F := F)) 𝒱₀ (c : Thread nD τ) none) Set.univ (.op (.load vM (chunkRect k).toLoadRect hl) p) Q) := by
  unfold loadDone
  iintro ⟨Hx, ⟨%f, Hv, %hf⟩, Hs⟩ Hk
  iapply (wp_load 𝒱₀ (c : Thread nD τ) none Set.univ (m := vM) (S := (vC k).view.set) (r := (chunkRect k).toLoadRect) (q := fullShare) (f := f)
    (by show vM.view.setOn (chunkRect k).set ⊆ (vM.view.slice (chunkRect k)).set; rw [View.set_slice]; exact Finset.Subset.refl _)) $$ [Hv]
  · unfold held; iexact Hv
  iintro Hv
  rw [show vM.view.readAt (Elt F) (chunkRect k).toLoadRect f = chunk m c k from hf]
  iapply Hk
  isplitl [Hx]; · iexact Hx
  isplitl [Hv]
  · iexists f
    isplitl [Hv]; · unfold held; iexact Hv
    ipureintro; exact hf
  · iexact Hs

/-! ## The copies out -/

/-- The semaphore of the stores from slot `s`. -/
abbrev storeS (s : Fin 2) : DmaSem sig := ⟨9 + s.val, by have := s.isLt; show 9 + s.val < 17; omega⟩

/-- Chunk `k` of the output lies in it, -/
theorem outInb (k : Fin 8) : ∀ a, (![0, 16 * k.val, 0, 0] : Fin 4 → Nat) a + S2x16x128x128.size a ≤ S2x128x128x128.size a := by
  revert k; decide +kernel
/-- and a slot in the buffer of two. -/
theorem pageInb (s : Fin 2) : ∀ a, (![s.val, 0, 0, 0, 0] : Fin 5 → Nat) a + S1x2x16x128x128.size a ≤ S2x2x16x128x128.size a := by
  revert s; decide +kernel
/-- Chunk `k` of the output block, -/
abbrev outRect (k : Fin 8) : Rect S2x128x128x128 := Rect.unit (s := S2x128x128x128) ![0, 16 * k.val, 0, 0] S2x16x128x128.size (outInb k)
abbrev oC (k : Fin 8) : Memref sig .tc .hbm S2x16x128x128 .f32 := oM.slice (outRect k) (fun _ => rfl)
/-- and slot `s` of the two output slots. -/
abbrev pageRect (s : Fin 2) : Rect S2x2x16x128x128 := Rect.unit (s := S2x2x16x128x128) ![s.val, 0, 0, 0, 0] S1x2x16x128x128.size (pageInb s)
abbrev bC (s : Fin 2) : Memref sig .tc .vmem S2x16x128x128 .f32 :=
  (bM.slice (pageRect s) (fun _ => rfl)).squeeze S2x16x128x128 squeezes_S1x2x16x128x128_S2x16x128x128

/-- The two shapes of a slot have the same elements. -/
theorem pageCasts : S1x2x16x128x128.ShapeCasts S2x16x128x128 := by decide

/-- A slot's contents in the shape a copy moves. -/
def flat (w : Vec F S1x2x16x128x128 .f32) : Vec F S2x16x128x128 .f32 :=
  shapeCast S2x16x128x128 w pageCasts

/-- A slot free, a slot holding `w`, a slot on its way to chunk `k`; and an output chunk holding `w`. -/
def pageFree (s : Fin 2) (c : Dev nD) : sProp 𝕄 :=
  iprop((∃ f, held (F := F) (bC s) c f) ∗ semVal ((c : Thread nD τ), .dma (storeS s)) 0)
def pageFull (s : Fin 2) (c : Dev nD) (w : Vec F S1x2x16x128x128 .f32) : sProp 𝕄 :=
  iprop((∃ f, held (bC s) c f ∗ ⌜(bC s).view.read (Elt F) f = flat w⌝) ∗ semVal ((c : Thread nD τ), .dma (storeS s)) 0)
def pageFlying (s : Fin 2) (k : Fin 8) (c : Dev nD) (w : Vec F S1x2x16x128x128 .f32) : sProp 𝕄 :=
  iprop(∃ f g, Flight countersEmb (c : Thread nD τ) (.dma (storeS s)) () (oC k).view.dmaCredit
    iprop(held (oC k) c ((oC k).view.write (Elt F) g (ReadAs.same.apply (flat w)) Finset.univ) ∗ held (bC s) c f))
def outPart (k : Fin 8) (c : Dev nD) (w : Vec F S1x2x16x128x128 .f32) : sProp 𝕄 :=
  iprop(∃ f, held (oC k) c f ∗ ⌜(oC k).view.read (Elt F) f = flat w⌝)

omit [FloatOps F] in
/-- A slot is the same elements in both shapes. -/
theorem bC_set (s : Fin 2) : (bC s).view.set = (bM.access (pageRect s)).set := by
  show ((bM.view.slice (pageRect s)).reshape _ _).set = _
  rw [View.set_reshape]

/-- A load of a free slot reads something; -/
theorem wp_pageLoad (s : Fin 2) (c : Dev nD) {α : Type} {Q : α → sProp 𝕄} {p : Vec F S1x2x16x128x128 .f32 → Prog (TpuEff nD τ sig (Elt F) Λ₀ .tc) α}
    {hl : bM.view.LoadsAt (pageRect s).toLoadRect} :
    pageFree (F := F) s c
      ⊢ iprop((∀ v, pageFree (F := F) s c -∗ wp frame (wpE (defs₀ (F := F)) 𝒱₀ (c : Thread nD τ) none) Set.univ (p v) Q)
        -∗ wp frame (wpE (defs₀ (F := F)) 𝒱₀ (c : Thread nD τ) none) Set.univ (.op (.load bM (pageRect s).toLoadRect hl) p) Q) := by
  unfold pageFree
  iintro ⟨⟨%f, Hb⟩, Hs⟩ Hk
  iapply (wp_load 𝒱₀ (c : Thread nD τ) none Set.univ (m := bM) (S := (bC s).view.set) (r := (pageRect s).toLoadRect) (q := fullShare) (f := f)
    (by rw [bC_set]; show bM.view.setOn (pageRect s).set ⊆ (bM.view.slice (pageRect s)).set; rw [View.set_slice]; exact Finset.Subset.refl _)) $$ [Hb]
  · unfold held; iexact Hb
  iintro Hb
  iapply Hk
  isplitl [Hb]
  · iexists f; unfold held; iexact Hb
  · iexact Hs

/-- a store fills it; -/
theorem wp_pageStore (s : Fin 2) (c : Dev nD) {α : Type} {Q : α → sProp 𝕄} {w : Vec F S1x2x16x128x128 .f32}
    {hx : (bM.access (pageRect s)).Stores Finset.univ} {hm : (Finset.univ : Finset (pageRect s).shape.Idx) = Finset.univ ∨ ∀ a, (pageRect s).stride a = 1}
    {p : PUnit → Prog (TpuEff nD τ sig (Elt F) Λ₀ .tc) α} :
    pageFree (F := F) s c
      ⊢ iprop((pageFull s c w -∗ wp frame (wpE (defs₀ (F := F)) 𝒱₀ (c : Thread nD τ) none) Set.univ (p ⟨⟩) Q)
        -∗ wp frame (wpE (defs₀ (F := F)) 𝒱₀ (c : Thread nD τ) none) Set.univ (.op (.store bM (pageRect s) w Finset.univ hx hm) p) Q) := by
  unfold pageFree
  iintro ⟨⟨%f, Hb⟩, Hs⟩ Hk
  iapply (wp_store 𝒱₀ (c : Thread nD τ) none Set.univ (S := (bC s).view.set) (f := f) (by rw [bC_set]; exact Finset.Subset.refl _)) $$ [Hb]
  · unfold held; iexact Hb
  iintro Hb
  iapply Hk
  unfold pageFull
  isplitl [Hb]
  · iexists ((bM.access (pageRect s)).write (Elt F) f w Finset.univ)
    isplitl [Hb]; · unfold held; iexact Hb
    ipureintro
    refine (Memref.read_squeeze_slice bM (pageRect s) (fun _ => rfl) squeezes_S1x2x16x128x128_S2x16x128x128 pageCasts _).trans ?_
    exact congrArg (fun v => shapeCast S2x16x128x128 v pageCasts) (View.read_write_univ _ _)
  · iexact Hs

/-- a copy out sends it on its way; -/
theorem wp_outStart (s : Fin 2) (k : Fin 8) (c : Dev nD) {α : Type} {Q : α → sProp 𝕄} {w : Vec F S1x2x16x128x128 .f32}
    {p : PUnit → Prog (TpuEff nD τ sig (Elt F) Λ₀ .tc) α}
    {hsrc : (bC s).view.WordExact} {hdst : (oC k).view.WordExact} {hsem : DmaTarget.Typed (nD := nD) (τ := τ) (p := .tc) .vmem (.dma (storeS s)) (.here (oC k))} :
    iprop(pageFull s c w ∗ (∃ g, held (F := F) (oC k) c g))
      ⊢ iprop((pageFlying s k c w -∗ wp frame (wpE (defs₀ (F := F)) 𝒱₀ (c : Thread nD τ) none) Set.univ (p ⟨⟩) Q)
        -∗ wp frame (wpE (defs₀ (F := F)) 𝒱₀ (c : Thread nD τ) none) Set.univ
            (.op (.enqueueDma (bC s) (.here (oC k)) (.dma (storeS s)) hsrc hdst hsem) p) Q) := by
  unfold pageFull
  iintro ⟨⟨⟨%f, Hb, %hf⟩, Hs⟩, ⟨%g, Ho⟩⟩ Hk
  iapply (Transfers.wp_dmaLocal countersEmb 𝒱₀ (c : Thread nD τ) none (dst := oC k) (Sd := (oC k).view.set) (fd := g) (fs := f) (q := fullShare)
    () (oC k).view.dmaCredit rfl (View.dmaCredit_pos _ (by decide)) (Finset.Subset.refl _)) $$ [Hb Ho Hs]
  · isplitl [Hb]; · unfold held; iexact Hb
    isplitl [Ho]; · unfold held; iexact Ho
    iexact Hs
  iintro Hf
  iapply Hk
  unfold pageFlying
  iexists f; iexists g
  rw [← hf]
  iexact Hf

/-- and the wait for it frees the slot and leaves the output chunk written. -/
theorem wp_outWait (s : Fin 2) (k : Fin 8) (c : Dev nD) {α : Type} {Q : α → sProp 𝕄} {w : Vec F S1x2x16x128x128 .f32}
    {p : PUnit → Prog (TpuEff nD τ sig (Elt F) Λ₀ .tc) α}
    {src : Memref sig .tc .vmem S2x16x128x128 .f32} {hsrc : src.view.WordExact} {hdst : (oC k).view.WordExact} :
    iprop(pageFlying s k c w ∗ owing c 0)
      ⊢ iprop(((pageFree (F := F) s c ∗ outPart k c w ∗ owing c 0) -∗ wp frame (wpE (defs₀ (F := F)) 𝒱₀ (c : Thread nD τ) none) Set.univ (p ⟨⟩) Q)
        -∗ wp frame (wpE (defs₀ (F := F)) 𝒱₀ (c : Thread nD τ) none) Set.univ (.op (.waitDma2 (storeS s) src (oC k) hsrc hdst) p) Q) := by
  unfold pageFlying owing
  iintro ⟨⟨%f, %g, Hf⟩, ⟨%W, HO⟩⟩ Hk
  iapply (Transfers.wp_waitLocal countersEmb 𝒱₀ (c : Thread nD τ) none () rfl) $$ [Hf HO]
  · isplitl [Hf]; · iexact Hf
    iexact HO
  iintro ⟨⟨Ho, Hb⟩, Hs, HO⟩
  iapply Hk
  isplitl [Hb Hs]
  · unfold pageFree
    isplitl [Hb]; · iexists f; iexact Hb
    iexact Hs
  isplitl [Ho]
  · unfold outPart
    iexists _
    isplitl [Ho]; · iexact Ho
    ipureintro; exact View.read_write_univ _ _
  · iexists _; iexact HO

end Cert.KernelIdeal.Exchange
-- ==== Proof.StretchKernelIdeal.lean ====
/- The kernel's body in three stretches: up to the own statistics, the three rounds of the exchange, and the
   normalisation with the product. -/
module

public import proofs.«01_k».proof.Proof.StepsKernelIdeal

@[expose] public section

set_option maxRecDepth 65536

noncomputable section

namespace Cert.KernelIdeal.Exchange

open Cert.KernelIdeal Cert.KernelIdeal.Gen
open Idealize.ShloMosaic
open Idealize.ShloMosaic.TcCoe
open Idealize.SL.Sem

variable {F : FTy → Type} [FloatOps F]

/-- The staged `Wp`. -/
abbrev wM : Memref sig .tc .vmem S64x128 .f32 := win0_0.stage (cfg0.slots t0_0 0)

/-- The buffers are whole arrays. -/
abbrev xW : xM.IsWhole := Memref.isWhole_whole _
abbrev oW : oM.IsWhole := Memref.isWhole_whole _
abbrev wW : wM.IsWhole := hstage0_0 0
abbrev vW : vM.IsWhole := Memref.isWhole_whole _
abbrev bW : bM.IsWhole := Memref.isWhole_whole _
abbrev sW : sM.IsWhole := Memref.isWhole_whole _
abbrev rW : rM.IsWhole := Memref.isWhole_whole _

/-- The loads' starts, the greetings, the loads' waits and the own statistics, then `k`. -/
def stretch1 (k : Dev nD → BitVec 32 → FVec F S4x64 .f32 → BitVec 32 → Prog (TpuEff nD τ sig (Elt F) Λ₀ .tc) PUnit) :
    Prog (TpuEff nD τ sig (Elt F) Λ₀ .tc) PUnit := do
  let ⟨d0, v2⟩ ← k0_part1 xM xW wM wW oM oW vM vW bM bW sM sW rM rW cc0_scratch4 cc0_scratch5 cc0_scratch6 cc0_scratch7
  let ⟨v35, c1⟩ ← k0_part2 xM xW wM wW oM oW vM vW bM bW sM sW rM rW cc0_scratch4 cc0_scratch5 cc0_scratch6 cc0_scratch7
  let v53 ← k0_part3 xM xW wM wW oM oW vM vW bM bW sM sW rM rW cc0_scratch4 cc0_scratch5 cc0_scratch6 cc0_scratch7 d0 v2 v35 c1
  let ⟨v62, v71, v76⟩ ← k0_part4 xM xW wM wW oM oW vM vW bM bW sM sW rM rW cc0_scratch4 cc0_scratch5 cc0_scratch6 cc0_scratch7
  let ⟨v80, v89, v98⟩ ← k0_part5 xM xW wM wW oM oW vM vW bM bW sM sW rM rW cc0_scratch4 cc0_scratch5 cc0_scratch6 cc0_scratch7 v76
  let ⟨v123, v124⟩ ← k0_part6 xM xW wM wW oM oW vM vW bM bW sM sW rM rW cc0_scratch4 cc0_scratch5 cc0_scratch6 cc0_scratch7 v2 v53 v62 v71 v80 v89 v98
  k d0 v2 v123 v124

/-- The three rounds, the waits for the own copies and the first loads of the second pass, then `k`. -/
def stretch2 (d0 : Dev nD) (v2 : BitVec 32) (v123 : FVec F S4x64 .f32) (v124 : BitVec 32)
    (k : FVec F S2x1x1x64 .f32 → FVec F S2x1x1x64 .f32 → FVec F S64x128 .bf16 → FVec F S4096x64 .bf16 → Prog (TpuEff nD τ sig (Elt F) Λ₀ .tc) PUnit) :
    Prog (TpuEff nD τ sig (Elt F) Λ₀ .tc) PUnit := do
  let ⟨v148, v149⟩ ← k0_part7 xM xW wM wW oM oW vM vW bM bW sM sW rM rW cc0_scratch4 cc0_scratch5 cc0_scratch6 cc0_scratch7 d0 v2 v123 v124
  let ⟨v173, v174⟩ ← k0_part8 xM xW wM wW oM oW vM vW bM bW sM sW rM rW cc0_scratch4 cc0_scratch5 cc0_scratch6 cc0_scratch7 d0 v2 v148 v149
  let v198 ← k0_part9 xM xW wM wW oM oW vM vW bM bW sM sW rM rW cc0_scratch4 cc0_scratch5 cc0_scratch6 cc0_scratch7 d0 v173 v174
  let ⟨v228, v229, v232, v241⟩ ← k0_part10 xM xW wM wW oM oW vM vW bM bW sM sW rM rW cc0_scratch4 cc0_scratch5 cc0_scratch6 cc0_scratch7 v198
  k v228 v229 v232 v241

/-- The second pass. -/
def stretch3 (v228 v229 : FVec F S2x1x1x64 .f32) (v232 : FVec F S64x128 .bf16) (v241 : FVec F S4096x64 .bf16) :
    Prog (TpuEff nD τ sig (Elt F) Λ₀ .tc) PUnit := do
  k0_part11 xM xW wM wW oM oW vM vW bM bW sM sW rM rW cc0_scratch4 cc0_scratch5 cc0_scratch6 cc0_scratch7 v228 v229 v232 v241
  k0_part12 xM xW wM wW oM oW vM vW bM bW sM sW rM rW cc0_scratch4 cc0_scratch5 cc0_scratch6 cc0_scratch7 v228 v229 v232
  k0_part13 xM xW wM wW oM oW vM vW bM bW sM sW rM rW cc0_scratch4 cc0_scratch5 cc0_scratch6 cc0_scratch7 v228 v229 v232
  k0_part14 xM xW wM wW oM oW vM vW bM bW sM sW rM rW cc0_scratch4 cc0_scratch5 cc0_scratch6 cc0_scratch7 v228 v229 v232
  k0_part15 xM xW wM wW oM oW vM vW bM bW sM sW rM rW cc0_scratch4 cc0_scratch5 cc0_scratch6 cc0_scratch7 v228 v229 v232
  k0_part16 xM xW wM wW oM oW vM vW bM bW sM sW rM rW cc0_scratch4 cc0_scratch5 cc0_scratch6 cc0_scratch7 v228 v229 v232
  k0_part17 xM xW wM wW oM oW vM vW bM bW sM sW rM rW cc0_scratch4 cc0_scratch5 cc0_scratch6 cc0_scratch7 v228 v229 v232
  Prog.lift (.waitDma2 ((cc0_scratch5.slice (Rect.unit (s := S2) ![0] S1.size inb_S2_S1_0)).squeeze S_ squeezes_S1_S_).sem
    ((bM.slice (Rect.unit (s := S2x2x16x128x128) ![0, 0, 0, 0, 0] S1x2x16x128x128.size inb_S2x2x16x128x128_S1x2x16x128x128_0_0_0_0_0) (fun _ => rfl)).squeeze S2x16x128x128 squeezes_S1x2x16x128x128_S2x16x128x128)
    (oM.slice (Rect.unit (s := S2x128x128x128) ![0, 96, 0, 0] S2x16x128x128.size inb_S2x128x128x128_S2x16x128x128_0_96_0_0) (fun _ => rfl))
    ((View.wordExact_bits rfl).reshape _ _) (View.wordExact_bits rfl))
  Prog.lift (.waitDma2 ((cc0_scratch5.slice (Rect.unit (s := S2) ![1] S1.size inb_S2_S1_1)).squeeze S_ squeezes_S1_S_).sem
    ((bM.slice (Rect.unit (s := S2x2x16x128x128) ![1, 0, 0, 0, 0] S1x2x16x128x128.size inb_S2x2x16x128x128_S1x2x16x128x128_1_0_0_0_0) (fun _ => rfl)).squeeze S2x16x128x128 squeezes_S1x2x16x128x128_S2x16x128x128)
    (oM.slice (Rect.unit (s := S2x128x128x128) ![0, 112, 0, 0] S2x16x128x128.size inb_S2x128x128x128_S2x16x128x128_0_112_0_0) (fun _ => rfl))
    ((View.wordExact_bits rfl).reshape _ _) (View.wordExact_bits rfl))
  pure ⟨⟩

/-- The body is the three stretches, one after another. -/
theorem body_stretches : bodyAt0 (F := F) t0_0 = stretch1 fun d0 v2 v123 v124 => stretch2 d0 v2 v123 v124 stretch3 := by
  unfold bodyAt0
  rw [cc0_body_eq_skeleton]
  rfl

end Cert.KernelIdeal.Exchange
-- ==== Proof.MeetKernelIdeal.lean ====
/- The first two stretches of the body on device `c`, run effect by effect: the loads, the greetings and the own
   statistics, then the three rounds of the exchange. -/
module

public import proofs.«01_k».proof.Proof.LocalKernelIdeal
public import proofs.«01_k».proof.Proof.StretchKernelIdeal

@[expose] public section

set_option maxRecDepth 65536

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 7 → ℕ)

/-- What device `c` knows throughout. -/
def knows (c : Dev nD) : sProp 𝕄 :=
  iprop(cellInv ER (xchg m) (K (c, barIx)) (barCell c) ∗ known m K 0 c ∗ known m K 1 c ∗ known m K 2 c ∗ levAts L lv)

/-- What a device knows is kept. -/
instance knows_persistent (c : Dev nD) : BI.Persistent (knows m K c) := by unfold knows; infer_instance

/-- What a greeting takes: its token and the receive slot it hands over. -/
def entry (j : Fin 3) (c : Dev nD) : sProp 𝕄 := iprop(dutyTok ER (barCell (mate j c)) 0 j ∗ ∃ f, slotPts (F := F) rM j c f)

set_option maxHeartbeats 1600000 in
/-- The first stretch: it ends with the own statistics, the mates' receive slots and every chunk loaded. -/
theorem stretch1_runs (c : Dev nD) (Kt : PUnit → sProp 𝕄)
    (k : Dev nD → BitVec 32 → FVec F S4x64 .f32 → BitVec 32 → Prog (TpuEff nD τ sig (Elt F) Λ₀ .tc) PUnit) :
    iprop(knows m K c ∗ owing c (O₀ c) ∗ (cred (tallyAt (barCell c) () 3) ∗ atPos ER (barCell c) 0 ∅ 0)
        ∗ (entry (F := F) 0 c ∗ entry (F := F) 1 c ∗ entry (F := F) 2 c) ∗ sendPay (F := F) 0 c
        ∗ (loadIdle m 0 c ∗ loadIdle m 1 c ∗ loadIdle m 2 c ∗ loadIdle m 3 c ∗ loadIdle m 4 c ∗ loadIdle m 5 c ∗ loadIdle m 6 c ∗ loadIdle m 7 c)
        ∗ (∀ v2 v124, (owing c (E₀ c) ∗ atPos ER (barCell c) (0 + 1) ∅ 0 ∗ (barPay (F := F) 0 c ∗ barPay (F := F) 1 c ∗ barPay (F := F) 2 c)
              ∗ sendPay (F := F) 0 c ∗ (loadDone m 0 c ∗ loadDone m 1 c ∗ loadDone m 2 c ∗ loadDone m 3 c ∗ loadDone m 4 c ∗ loadDone m 5 c ∗ loadDone m 6 c ∗ loadDone m 7 c))
            -∗ wp frame (wpE (defs₀ (F := F)) 𝒱₀ (c : Thread nD τ) none) Set.univ (k c v2 (own m c) v124) Kt))
      ⊢ wp frame (wpE (defs₀ (F := F)) 𝒱₀ (c : Thread nD τ) none) Set.univ (stretch1 k) Kt := by
  unfold stretch1
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  simp only [dev1_eq c, dev2_eq c, dev3_eq c]
  unfold knows entry
  iintro ⟨⟨#HIb, #Hk0, #Hk1, #Hk2, #Hlev⟩, HO, ⟨HcB, HatB⟩, ⟨⟨Ht0, Hr0⟩, ⟨Ht1, Hr1⟩, ⟨Ht2, Hr2⟩⟩, Hs0, ⟨Hl0, Hl1, Hl2, Hl3, Hl4, Hl5, Hl6, Hl7⟩, Hk⟩
  iapply (wp_loadStart m 0 c) $$ Hl0; iintro Hl0
  iapply (wp_loadStart m 1 c) $$ Hl1; iintro Hl1
  iapply (wp_loadStart m 2 c) $$ Hl2; iintro Hl2
  iapply (wp_loadStart m 3 c) $$ Hl3; iintro Hl3
  iapply (wp_loadStart m 4 c) $$ Hl4; iintro Hl4
  iapply (wp_loadStart m 5 c) $$ Hl5; iintro Hl5
  iapply (wp_loadStart m 6 c) $$ Hl6; iintro Hl6
  iapply (wp_loadStart m 7 c) $$ Hl7; iintro Hl7
  iapply (wp_greet m K 0 c (by decide) (O := B₁ c) rfl) $$ [HO Ht0 Hr0]
  · isplitr; · iexact Hk0
    isplitl [HO]; · iexact HO
    isplitl [Ht0]; · iexact Ht0
    iexact Hr0
  iintro HO
  iapply (wp_greet m K 1 c (by decide) (O := B₂ c) rfl) $$ [HO Ht1 Hr1]
  · isplitr; · iexact Hk1
    isplitl [HO]; · iexact HO
    isplitl [Ht1]; · iexact Ht1
    iexact Hr1
  iintro HO
  iapply (wp_greet m K 2 c (by decide) (O := E₀ c) rfl) $$ [HO Ht2 Hr2]
  · isplitr; · iexact Hk2
    isplitl [HO]; · iexact HO
    isplitl [Ht2]; · iexact Ht2
    iexact Hr2
  iintro HO
  iapply (wp_greeted m K c (by decide) (above_E₀ c)) $$ [HcB HO HatB]
  · isplitr; · iexact HIb
    isplitr; · iexact Hlev
    isplitl [HcB]; · iexact HcB
    isplitl [HO]; · iexact HO
    iexact HatB
  iintro ⟨HO, HatB, Hb⟩
  iapply (wp_loadWait m 0 c (above_E₀ c)) $$ [Hl0 HO]
  · isplitl [Hl0]; · iexact Hl0
    isplitr; · iexact Hlev
    iexact HO
  iintro ⟨Hl0, HO⟩
  iapply (wp_chunk m 0 c) $$ Hl0; iintro Hl0
  iapply (wp_loadWait m 1 c (above_E₀ c)) $$ [Hl1 HO]
  · isplitl [Hl1]; · iexact Hl1
    isplitr; · iexact Hlev
    iexact HO
  iintro ⟨Hl1, HO⟩
  iapply (wp_chunk m 1 c) $$ Hl1; iintro Hl1
  iapply (wp_loadWait m 2 c (above_E₀ c)) $$ [Hl2 HO]
  · isplitl [Hl2]; · iexact Hl2
    isplitr; · iexact Hlev
    iexact HO
  iintro ⟨Hl2, HO⟩
  iapply (wp_chunk m 2 c) $$ Hl2; iintro Hl2
  iapply (wp_loadWait m 3 c (above_E₀ c)) $$ [Hl3 HO]
  · isplitl [Hl3]; · iexact Hl3
    isplitr; · iexact Hlev
    iexact HO
  iintro ⟨Hl3, HO⟩
  iapply (wp_chunk m 3 c) $$ Hl3; iintro Hl3
  iapply (wp_loadWait m 4 c (above_E₀ c)) $$ [Hl4 HO]
  · isplitl [Hl4]; · iexact Hl4
    isplitr; · iexact Hlev
    iexact HO
  iintro ⟨Hl4, HO⟩
  iapply (wp_chunk m 4 c) $$ Hl4; iintro Hl4
  iapply (wp_loadWait m 5 c (above_E₀ c)) $$ [Hl5 HO]
  · isplitl [Hl5]; · iexact Hl5
    isplitr; · iexact Hlev
    iexact HO
  iintro ⟨Hl5, HO⟩
  iapply (wp_chunk m 5 c) $$ Hl5; iintro Hl5
  iapply (wp_loadWait m 6 c (above_E₀ c)) $$ [Hl6 HO]
  · isplitl [Hl6]; · iexact Hl6
    isplitr; · iexact Hlev
    iexact HO
  iintro ⟨Hl6, HO⟩
  iapply (wp_chunk m 6 c) $$ Hl6; iintro Hl6
  iapply (wp_loadWait m 7 c (above_E₀ c)) $$ [Hl7 HO]
  · isplitl [Hl7]; · iexact Hl7
    isplitr; · iexact Hlev
    iexact HO
  iintro ⟨Hl7, HO⟩
  iapply (wp_chunk m 7 c) $$ Hl7; iintro Hl7
  iapply (wp_sendLoad 0 c) $$ Hs0; iintro %v Hs0
  rw [show k0_pay7 (k0_pay1 (chunk m c 0)) (k0_pay2 (chunk m c 1)) (k0_pay3 (chunk m c 2)) (k0_pay4 (chunk m c 3)) (k0_pay5 (chunk m c 4))
    (k0_pay6 (chunk m c 5)) (chunk m c 6) (chunk m c 7) = own m c from rfl]
  iapply Hk
  isplitl [HO]; · iexact HO
  isplitl [HatB]; · iexact HatB
  isplitl [Hb]; · iexact Hb
  isplitl [Hs0]; · iexact Hs0
  isplitl [Hl0]; · iexact Hl0
  isplitl [Hl1]; · iexact Hl1
  isplitl [Hl2]; · iexact Hl2
  isplitl [Hl3]; · iexact Hl3
  isplitl [Hl4]; · iexact Hl4
  isplitl [Hl5]; · iexact Hl5
  isplitl [Hl6]; · iexact Hl6
  iexact Hl7

/-- The staged `Wp`, at contents `g`. -/
def wHeld (c : Dev nD) (g : Vec F S64x128 .f32) : sProp 𝕄 := ((c : Thread nD τ).loc cc0_stg0_0) ↦{fullShare} g

/-- A load of the staged `Wp` reads it. -/
theorem wp_weights (c : Dev nD) (g : Vec F S64x128 .f32) {α : Type} {Q : α → sProp 𝕄} {p : Vec F S64x128 .f32 → Prog (TpuEff nD τ sig (Elt F) Λ₀ .tc) α}
    {hb : ∀ a, (![0, 0] : Fin 2 → Nat) a + S64x128.size a ≤ S64x128.size a}
    {hl : wM.view.LoadsAt (Rect.unit (s := S64x128) ![0, 0] S64x128.size hb).toLoadRect} :
    wHeld c g
      ⊢ iprop((wHeld c g -∗ wp frame (wpE (defs₀ (F := F)) 𝒱₀ (c : Thread nD τ) none) Set.univ (p g) Q)
        -∗ wp frame (wpE (defs₀ (F := F)) 𝒱₀ (c : Thread nD τ) none) Set.univ
            (.op (.load wM (Rect.unit (s := S64x128) ![0, 0] S64x128.size hb).toLoadRect hl) p) Q) := by
  unfold wHeld
  iintro Hw Hk
  iapply (wp_load 𝒱₀ (c : Thread nD τ) none Set.univ (m := wM) (r := (Rect.unit (s := S64x128) ![0, 0] S64x128.size hb).toLoadRect)
    (q := fullShare) (f := g) (Finset.subset_univ _)) $$ Hw
  iintro Hw
  rw [show (wM : Memref sig .tc .vmem S64x128 .f32).view.readAt (Elt F) (Rect.unit (s := S64x128) ![0, 0] S64x128.size hb).toLoadRect g = g from
    Memref.readAt_unit_zero (Elt F) cc0_stg0_0 (by decide) _ g]
  iapply Hk
  iexact Hw

set_option maxHeartbeats 1600000 in
/-- The second stretch: three rounds, after which the statistics are those of all eight devices, and every slot is the
    device's own again. -/
theorem stretch2_runs (c : Dev nD) (g : Vec F S64x128 .f32) (v2 v124 : BitVec 32) (Kt : PUnit → sProp 𝕄)
    (k : FVec F S2x1x1x64 .f32 → FVec F S2x1x1x64 .f32 → FVec F S64x128 .bf16 → FVec F S4096x64 .bf16 → Prog (TpuEff nD τ sig (Elt F) Λ₀ .tc) PUnit) :
    iprop(knows m K c ∗ owing c (E₀ c) ∗ (barPay (F := F) 0 c ∗ barPay (F := F) 1 c ∗ barPay (F := F) 2 c)
        ∗ (sendPay (F := F) 0 c ∗ sendPay (F := F) 1 c ∗ sendPay (F := F) 2 c)
        ∗ (atPos ER (sendCell 0 c) 0 ∅ 0 ∗ atPos ER (sendCell 1 c) 0 ∅ 0 ∗ atPos ER (sendCell 2 c) 0 ∅ 0)
        ∗ (atPos ER (recvCell 0 c) 0 ∅ 0 ∗ atPos ER (recvCell 1 c) 0 ∅ 0 ∗ atPos ER (recvCell 2 c) 0 ∅ 0)
        ∗ (cred (tallyAt (recvCell 0 c) () N) ∗ cred (tallyAt (recvCell 1 c) () N) ∗ cred (tallyAt (recvCell 2 c) () N))
        ∗ ((dutyTok ER (sendCell 0 c) 0 0 ∗ dutyTok ER (recvCell 0 (mate 0 c)) 0 0) ∗ (dutyTok ER (sendCell 1 c) 0 0 ∗ dutyTok ER (recvCell 1 (mate 1 c)) 0 0) ∗ (dutyTok ER (sendCell 2 c) 0 0 ∗ dutyTok ER (recvCell 2 (mate 2 c)) 0 0))
        ∗ wHeld c g ∗ loadDone m 0 c
        ∗ ((owing c 0 ∗ (sendPay (F := F) 0 c ∗ sendPay (F := F) 1 c ∗ sendPay (F := F) 2 c)
              ∗ (recvPay m 0 c ∗ recvPay m 1 c ∗ recvPay m 2 c)
              ∗ (atPos ER (sendCell 0 c) (0 + 1) ∅ 0 ∗ atPos ER (sendCell 1 c) (0 + 1) ∅ 0 ∗ atPos ER (sendCell 2 c) (0 + 1) ∅ 0)
              ∗ (atPos ER (recvCell 0 c) (0 + 1) ∅ 0 ∗ atPos ER (recvCell 1 c) (0 + 1) ∅ 0 ∗ atPos ER (recvCell 2 c) (0 + 1) ∅ 0)
              ∗ wHeld c g ∗ loadDone m 0 c)
            -∗ wp frame (wpE (defs₀ (F := F)) 𝒱₀ (c : Thread nD τ) none) Set.univ
                (k (k0_pay15 (after3 m c)) (k0_pay16 (after3 m c)) (k0_pay17 g) (k0_pay18 (after3 m c) (chunk m c 0))) Kt))
      ⊢ wp frame (wpE (defs₀ (F := F)) 𝒱₀ (c : Thread nD τ) none) Set.univ (stretch2 c v2 (own m c) v124 k) Kt := by
  unfold stretch2
  simp only [k0_part7_eq_skeleton, k0_part8_eq_skeleton, k0_part9_eq_skeleton, k0_part10_eq_skeleton]
  unfold k0_part7_skel k0_part8_skel k0_part9_skel k0_part10_skel
  simp only [semSignalWord, semWaitWord, Prog.lift, Prog.bind_op, Prog.bind_ret, Prog.pure_eq_ret, wp_deviceId]
  unfold knows
  iintro ⟨⟨#HIb, #Hk0, #Hk1, #Hk2, #Hlev⟩, HO, ⟨Hb0, Hb1, Hb2⟩, ⟨Hs0, Hs1, Hs2⟩, ⟨Has0, Has1, Has2⟩, ⟨Har0, Har1, Har2⟩, ⟨Hcr0, Hcr1, Hcr2⟩,
    ⟨⟨Hts0, Htr0⟩, ⟨Hts1, Htr1⟩, ⟨Hts2, Htr2⟩⟩, Hw, Hl0, Hk⟩
  iapply (wp_sendStore m 0 c rfl) $$ Hs0; iintro Hs0
  iapply (wp_send m K 0 c (dev4_eq c) (O := E₁ c) rfl) $$ [HO Hs0 Hb0 Hts0 Htr0]
  · isplitr; · iexact Hk0
    isplitl [Hs0]; · iexact Hs0
    isplitl [Hb0]; · iexact Hb0
    isplitl [HO]; · iexact HO
    isplitl [Hts0]; · iexact Hts0
    iexact Htr0
  iintro ⟨Hcs0, HO⟩
  iapply (wp_arrived m K 0 c (credit_slot 0) (above_E₁ c) (by decide)) $$ [Hcr0 HO Har0]
  · isplitr; · iexact Hk0
    isplitr; · iexact Hlev
    isplitl [Hcr0]; · iexact Hcr0
    isplitl [HO]; · iexact HO
    iexact Har0
  iintro ⟨HO, Har0, Hr0⟩
  iapply (wp_recvLoad m 0 c) $$ Hr0; iintro Hr0
  iapply (wp_sendLoad 1 c) $$ Hs1; iintro %_ Hs1
  iapply (wp_sendStore m 1 c rfl) $$ Hs1; iintro Hs1
  iapply (wp_send m K 1 c (dev5_eq c) (O := E₂ c) rfl) $$ [HO Hs1 Hb1 Hts1 Htr1]
  · isplitr; · iexact Hk1
    isplitl [Hs1]; · iexact Hs1
    isplitl [Hb1]; · iexact Hb1
    isplitl [HO]; · iexact HO
    isplitl [Hts1]; · iexact Hts1
    iexact Htr1
  iintro ⟨Hcs1, HO⟩
  iapply (wp_arrived m K 1 c (credit_slot 1) (above_E₂ c) (by decide)) $$ [Hcr1 HO Har1]
  · isplitr; · iexact Hk1
    isplitr; · iexact Hlev
    isplitl [Hcr1]; · iexact Hcr1
    isplitl [HO]; · iexact HO
    iexact Har1
  iintro ⟨HO, Har1, Hr1⟩
  iapply (wp_recvLoad m 1 c) $$ Hr1; iintro Hr1
  iapply (wp_sendLoad 2 c) $$ Hs2; iintro %_ Hs2
  iapply (wp_sendStore m 2 c rfl) $$ Hs2; iintro Hs2
  iapply (wp_send m K 2 c (dev6_eq c) (O := 0) (zero_add _).symm) $$ [HO Hs2 Hb2 Hts2 Htr2]
  · isplitr; · iexact Hk2
    isplitl [Hs2]; · iexact Hs2
    isplitl [Hb2]; · iexact Hb2
    isplitl [HO]; · iexact HO
    isplitl [Hts2]; · iexact Hts2
    iexact Htr2
  iintro ⟨Hcs2, HO⟩
  iapply (wp_arrived m K 2 c (credit_slot 2) (Above.zero (n := 5)) (by decide)) $$ [Hcr2 HO Har2]
  · isplitr; · iexact Hk2
    isplitr; · iexact Hlev
    isplitl [Hcr2]; · iexact Hcr2
    isplitl [HO]; · iexact HO
    iexact Har2
  iintro ⟨HO, Har2, Hr2⟩
  iapply (wp_recvLoad m 2 c) $$ Hr2; iintro Hr2
  iapply (wp_sentAway m K 0 c (show (slot sM 0).view.dmaCredit = N from rfl)) $$ [Hcs0 HO Has0]
  · isplitr; · iexact Hk0
    isplitr; · iexact Hlev
    isplitl [Hcs0]; · iexact Hcs0
    isplitl [HO]; · iexact HO
    iexact Has0
  iintro ⟨HO, Has0, Hs0⟩
  iapply (wp_sentAway m K 1 c (show (slot sM 1).view.dmaCredit = N from rfl)) $$ [Hcs1 HO Has1]
  · isplitr; · iexact Hk1
    isplitr; · iexact Hlev
    isplitl [Hcs1]; · iexact Hcs1
    isplitl [HO]; · iexact HO
    iexact Has1
  iintro ⟨HO, Has1, Hs1⟩
  iapply (wp_sentAway m K 2 c (show (slot sM 2).view.dmaCredit = N from rfl)) $$ [Hcs2 HO Has2]
  · isplitr; · iexact Hk2
    isplitr; · iexact Hlev
    isplitl [Hcs2]; · iexact Hcs2
    isplitl [HO]; · iexact HO
    iexact Has2
  iintro ⟨HO, Has2, Hs2⟩
  iapply (wp_weights c g) $$ Hw; iintro Hw
  iapply (wp_chunk m 0 c) $$ Hl0; iintro Hl0
  rw [show k0_pay13 (k0_pay11 (k0_pay9 (own m c) (sent m 0 (mate 0 c))) (sent m 1 (mate 1 c))) (sent m 2 (mate 2 c)) = after3 m c from rfl]
  iapply Hk
  isplitl [HO]; · iexact HO
  isplitl [Hs0 Hs1 Hs2]
  · isplitl [Hs0]; · iexact Hs0
    isplitl [Hs1] <;> iassumption
  isplitl [Hr0 Hr1 Hr2]
  · isplitl [Hr0]; · iexact Hr0
    isplitl [Hr1] <;> iassumption
  isplitl [Has0 Has1 Has2]
  · isplitl [Has0]; · iexact Has0
    isplitl [Has1] <;> iassumption
  isplitl [Har0 Har1 Har2]
  · isplitl [Har0]; · iexact Har0
    isplitl [Har1] <;> iassumption
  isplitl [Hw]; · iexact Hw
  iexact Hl0

end Cert.KernelIdeal.Exchange
-- ==== Proof.OutKernelIdeal.lean ====
/- The third stretch of the body on device `c`: every chunk normalised, activated, multiplied and copied out. -/
module

public import proofs.«01_k».proof.Proof.LocalKernelIdeal
public import proofs.«01_k».proof.Proof.StretchKernelIdeal

@[expose] public section

set_option maxRecDepth 65536

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What the output slot holds for chunk `k`: the chunk normalised, activated and multiplied by the rounded `Wp`. -/
def outPage (c : Dev nD) (g : Vec F S64x128 .f32) (k : Fin 8) : Vec F S1x2x16x128x128 .f32 :=
  k0_pay20 (k0_pay15 (after3 m c)) (k0_pay16 (after3 m c)) (k0_pay17 g) (chunk m c k)

/-- The store of chunk `k`'s result into slot `s`. -/
theorem wp_pageKept (g : Vec F S64x128 .f32) (s : Fin 2) (k : Fin 8) (c : Dev nD) {α : Type} {Q : α → sProp 𝕄} {w : Vec F S1x2x16x128x128 .f32} (hw : w = outPage m c g k)
    {hx : (bM.access (pageRect s)).Stores Finset.univ} {hm : (Finset.univ : Finset (pageRect s).shape.Idx) = Finset.univ ∨ ∀ a, (pageRect s).stride a = 1}
    {p : PUnit → Prog (TpuEff nD τ sig (Elt F) Λ₀ .tc) α} :
    pageFree (F := F) s c
      ⊢ iprop((pageFull s c (outPage m c g k) -∗ wp frame (wpE (defs₀ (F := F)) 𝒱₀ (c : Thread nD τ) none) Set.univ (p ⟨⟩) Q)
        -∗ wp frame (wpE (defs₀ (F := F)) 𝒱₀ (c : Thread nD τ) none) Set.univ (.op (.store bM (pageRect s) w Finset.univ hx hm) p) Q) := by
  subst hw
  exact wp_pageStore s c

/-- An output chunk before it is written. -/
def outIdle (k : Fin 8) (c : Dev nD) : sProp 𝕄 := iprop(∃ f, held (F := F) (oC k) c f)

set_option maxHeartbeats 1600000 in
/-- The third stretch: every chunk of the output block is written. -/
theorem stretch3_runs (c : Dev nD) (g : Vec F S64x128 .f32) (Kt : PUnit → sProp 𝕄) :
    iprop(owing c 0 ∗ (pageFree (F := F) 0 c ∗ pageFree (F := F) 1 c) ∗ (loadDone m 1 c ∗ loadDone m 2 c ∗ loadDone m 3 c ∗ loadDone m 4 c ∗ loadDone m 5 c ∗ loadDone m 6 c ∗ loadDone m 7 c)
        ∗ (outIdle (F := F) 0 c ∗ outIdle (F := F) 1 c ∗ outIdle (F := F) 2 c ∗ outIdle (F := F) 3 c ∗ outIdle (F := F) 4 c ∗ outIdle (F := F) 5 c ∗ outIdle (F := F) 6 c ∗ outIdle (F := F) 7 c)
        ∗ ((owing c 0 ∗ (pageFree (F := F) 0 c ∗ pageFree (F := F) 1 c) ∗ (loadDone m 1 c ∗ loadDone m 2 c ∗ loadDone m 3 c ∗ loadDone m 4 c ∗ loadDone m 5 c ∗ loadDone m 6 c ∗ loadDone m 7 c)
              ∗ (outPart 0 c (outPage m c g 0) ∗ outPart 1 c (outPage m c g 1) ∗ outPart 2 c (outPage m c g 2) ∗ outPart 3 c (outPage m c g 3) ∗ outPart 4 c (outPage m c g 4) ∗ outPart 5 c (outPage m c g 5) ∗ outPart 6 c (outPage m c g 6) ∗ outPart 7 c (outPage m c g 7)))
            -∗ Kt ⟨⟩))
      ⊢ wp frame (wpE (defs₀ (F := F)) 𝒱₀ (c : Thread nD τ) none) Set.univ
          (stretch3 (k0_pay15 (after3 m c)) (k0_pay16 (after3 m c)) (k0_pay17 g) (k0_pay18 (after3 m c) (chunk m c 0))) Kt := by
  unfold stretch3
  simp only [k0_part11_eq_skeleton, k0_part12_eq_skeleton, k0_part13_eq_skeleton, k0_part14_eq_skeleton, k0_part15_eq_skeleton, k0_part16_eq_skeleton,
    k0_part17_eq_skeleton]
  unfold k0_part11_skel k0_part12_skel k0_part13_skel k0_part14_skel k0_part15_skel k0_part16_skel k0_part17_skel
  simp only [semSignalWord, semWaitWord, Prog.lift, Prog.bind_op, Prog.bind_ret, Prog.pure_eq_ret]
  iintro ⟨HO, ⟨Hp0, Hp1⟩, ⟨Hl1, Hl2, Hl3, Hl4, Hl5, Hl6, Hl7⟩, ⟨Ho0, Ho1, Ho2, Ho3, Ho4, Ho5, Ho6, Ho7⟩, Hk⟩
  iapply (wp_pageLoad 0 c) $$ Hp0; iintro %_ Hp0
  iapply (wp_pageKept m g 0 0 c rfl) $$ Hp0; iintro Hp0
  iapply (wp_outStart 0 0 c) $$ [Hp0 Ho0]
  · isplitl [Hp0]; · iexact Hp0
    unfold outIdle; iexact Ho0
  iintro Hp0
  iapply (wp_chunk m 1 c) $$ Hl1; iintro Hl1
  iapply (wp_pageLoad 1 c) $$ Hp1; iintro %_ Hp1
  iapply (wp_pageKept m g 1 1 c rfl) $$ Hp1; iintro Hp1
  iapply (wp_outStart 1 1 c) $$ [Hp1 Ho1]
  · isplitl [Hp1]; · iexact Hp1
    unfold outIdle; iexact Ho1
  iintro Hp1
  iapply (wp_outWait 0 0 c) $$ [Hp0 HO]
  · isplitl [Hp0] <;> iassumption
  iintro ⟨Hp0, Ho0, HO⟩
  iapply (wp_chunk m 2 c) $$ Hl2; iintro Hl2
  iapply (wp_pageLoad 0 c) $$ Hp0; iintro %_ Hp0
  iapply (wp_pageKept m g 0 2 c rfl) $$ Hp0; iintro Hp0
  iapply (wp_outStart 0 2 c) $$ [Hp0 Ho2]
  · isplitl [Hp0]; · iexact Hp0
    unfold outIdle; iexact Ho2
  iintro Hp0
  iapply (wp_outWait 1 1 c) $$ [Hp1 HO]
  · isplitl [Hp1] <;> iassumption
  iintro ⟨Hp1, Ho1, HO⟩
  iapply (wp_chunk m 3 c) $$ Hl3; iintro Hl3
  iapply (wp_pageLoad 1 c) $$ Hp1; iintro %_ Hp1
  iapply (wp_pageKept m g 1 3 c rfl) $$ Hp1; iintro Hp1
  iapply (wp_outStart 1 3 c) $$ [Hp1 Ho3]
  · isplitl [Hp1]; · iexact Hp1
    unfold outIdle; iexact Ho3
  iintro Hp1
  iapply (wp_outWait 0 2 c) $$ [Hp0 HO]
  · isplitl [Hp0] <;> iassumption
  iintro ⟨Hp0, Ho2, HO⟩
  iapply (wp_chunk m 4 c) $$ Hl4; iintro Hl4
  iapply (wp_pageLoad 0 c) $$ Hp0; iintro %_ Hp0
  iapply (wp_pageKept m g 0 4 c rfl) $$ Hp0; iintro Hp0
  iapply (wp_outStart 0 4 c) $$ [Hp0 Ho4]
  · isplitl [Hp0]; · iexact Hp0
    unfold outIdle; iexact Ho4
  iintro Hp0
  iapply (wp_outWait 1 3 c) $$ [Hp1 HO]
  · isplitl [Hp1] <;> iassumption
  iintro ⟨Hp1, Ho3, HO⟩
  iapply (wp_chunk m 5 c) $$ Hl5; iintro Hl5
  iapply (wp_pageLoad 1 c) $$ Hp1; iintro %_ Hp1
  iapply (wp_pageKept m g 1 5 c rfl) $$ Hp1; iintro Hp1
  iapply (wp_outStart 1 5 c) $$ [Hp1 Ho5]
  · isplitl [Hp1]; · iexact Hp1
    unfold outIdle; iexact Ho5
  iintro Hp1
  iapply (wp_outWait 0 4 c) $$ [Hp0 HO]
  · isplitl [Hp0] <;> iassumption
  iintro ⟨Hp0, Ho4, HO⟩
  iapply (wp_chunk m 6 c) $$ Hl6; iintro Hl6
  iapply (wp_pageLoad 0 c) $$ Hp0; iintro %_ Hp0
  iapply (wp_pageKept m g 0 6 c rfl) $$ Hp0; iintro Hp0
  iapply (wp_outStart 0 6 c) $$ [Hp0 Ho6]
  · isplitl [Hp0]; · iexact Hp0
    unfold outIdle; iexact Ho6
  iintro Hp0
  iapply (wp_outWait 1 5 c) $$ [Hp1 HO]
  · isplitl [Hp1] <;> iassumption
  iintro ⟨Hp1, Ho5, HO⟩
  iapply (wp_chunk m 7 c) $$ Hl7; iintro Hl7
  iapply (wp_pageLoad 1 c) $$ Hp1; iintro %_ Hp1
  iapply (wp_pageKept m g 1 7 c rfl) $$ Hp1; iintro Hp1
  iapply (wp_outStart 1 7 c) $$ [Hp1 Ho7]
  · isplitl [Hp1]; · iexact Hp1
    unfold outIdle; iexact Ho7
  iintro Hp1
  iapply (wp_outWait 0 6 c) $$ [Hp0 HO]
  · isplitl [Hp0] <;> iassumption
  iintro ⟨Hp0, Ho6, HO⟩
  iapply (wp_outWait 1 7 c) $$ [Hp1 HO]
  · isplitl [Hp1] <;> iassumption
  iintro ⟨Hp1, Ho7, HO⟩
  rw [wp_ret]; imodintro
  iapply Hk
  isplitl [HO]; · iexact HO
  isplitl [Hp0 Hp1]
  · isplitl [Hp0] <;> iassumption
  isplitl [Hl1 Hl2 Hl3 Hl4 Hl5 Hl6 Hl7]
  · isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  iexact Ho7

end Cert.KernelIdeal.Exchange
-- ==== Proof.PiecesKernelIdeal.lean ====
/- Whole buffers as their pieces: the input, its copy and the output as eight chunks, the output slots as two, the
   buffers of the exchange as three. -/
module

public import proofs.«01_k».proof.Proof.LocalKernelIdeal
public import Idealize.ShloMosaic.Lib.Ring

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Slabs of an axis -/

/-- Sets cut along one coordinate, `w` thick, are disjoint -/
theorem slabs_disjoint {I : Type} [DecidableEq I] {n w : ℕ} (p : I → ℕ) {S : Fin n → Finset I}
    (hS : ∀ k i, i ∈ S k ↔ w * k.val ≤ p i ∧ p i < w * k.val + w) : ∀ k k', k ≠ k' → Disjoint (S k) (S k') := by
  intro k k' hne
  refine Finset.disjoint_left.mpr fun i hi hi' => hne (Fin.ext ?_)
  obtain ⟨h1, h2⟩ := (hS k i).mp hi
  obtain ⟨h3, h4⟩ := (hS k' i).mp hi'
  have a : k.val ≤ k'.val := by
    by_contra h
    have := Nat.mul_le_mul_left w (show k'.val + 1 ≤ k.val by omega)
    rw [Nat.mul_add, Nat.mul_one] at this; omega
  have b : k'.val ≤ k.val := by
    by_contra h
    have := Nat.mul_le_mul_left w (show k.val + 1 ≤ k'.val by omega)
    rw [Nat.mul_add, Nat.mul_one] at this; omega
  omega

/-- and cover what the coordinate ranges over. -/
theorem slabs_cover {I : Type} [Fintype I] [DecidableEq I] {n w : ℕ} (p : I → ℕ) {S : Fin n → Finset I}
    (hS : ∀ k i, i ∈ S k ↔ w * k.val ≤ p i ∧ p i < w * k.val + w) (hp : ∀ i, p i < w * n) (hw : 0 < w) :
    Finset.univ.biUnion S = Finset.univ := by
  ext i
  simp only [Finset.mem_biUnion, Finset.mem_univ, true_and, iff_true]
  have hk : p i / w < n := (Nat.div_lt_iff_lt_mul hw).mpr (by rw [Nat.mul_comm]; exact hp i)
  refine ⟨⟨p i / w, hk⟩, (hS _ i).mpr ⟨Nat.mul_div_le _ _, ?_⟩⟩
  have := Nat.lt_mul_div_succ (p i) hw
  rwa [Nat.mul_add, Nat.mul_one] at this

/-- An index lies in chunk `k` of the input by its row, -/
theorem mem_chunkRect (k : Fin 8) (i : S2x128x128x64.Idx) : i ∈ (chunkRect k).set ↔ 16 * k.val ≤ (i 1).val ∧ (i 1).val < 16 * k.val + 16 := by
  rw [Rect.mem_set_unit]
  refine ⟨fun h => h 1, fun h a => ?_⟩
  have := (i a).isLt
  fin_cases a
  · exact ⟨Nat.zero_le _, by simpa using this⟩
  · exact h
  · exact ⟨Nat.zero_le _, by simpa using this⟩
  · exact ⟨Nat.zero_le _, by simpa using this⟩

/-- in chunk `k` of the output by its row, -/
theorem mem_outRect (k : Fin 8) (i : S2x128x128x128.Idx) : i ∈ (outRect k).set ↔ 16 * k.val ≤ (i 1).val ∧ (i 1).val < 16 * k.val + 16 := by
  rw [Rect.mem_set_unit]
  refine ⟨fun h => h 1, fun h a => ?_⟩
  have := (i a).isLt
  fin_cases a
  · exact ⟨Nat.zero_le _, by simpa using this⟩
  · exact h
  · exact ⟨Nat.zero_le _, by simpa using this⟩
  · exact ⟨Nat.zero_le _, by simpa using this⟩

/-- in a slot of the stores by its first coordinate, -/
theorem mem_pageRect (s : Fin 2) (i : S2x2x16x128x128.Idx) : i ∈ (pageRect s).set ↔ 1 * s.val ≤ (i 0).val ∧ (i 0).val < 1 * s.val + 1 := by
  rw [Rect.mem_set_unit, Nat.one_mul]
  refine ⟨fun h => h 0, fun h a => ?_⟩
  have := (i a).isLt
  fin_cases a
  · exact h
  · exact ⟨Nat.zero_le _, by simpa using this⟩
  · exact ⟨Nat.zero_le _, by simpa using this⟩
  · exact ⟨Nat.zero_le _, by simpa using this⟩
  · exact ⟨Nat.zero_le _, by simpa using this⟩

/-- and so in a slot of the exchange. -/
theorem mem_slotRect (j : Fin 3) (i : S3x4x64.Idx) : i ∈ (slotRect j).set ↔ 1 * j.val ≤ (i 0).val ∧ (i 0).val < 1 * j.val + 1 := by
  rw [Rect.mem_set_unit, Nat.one_mul]
  refine ⟨fun h => h 0, fun h a => ?_⟩
  have := (i a).isLt
  fin_cases a
  · exact h
  · exact ⟨Nat.zero_le _, by simpa using this⟩
  · exact ⟨Nat.zero_le _, by simpa using this⟩

/-! ## The chunks of the input, of its copy and of the output -/

/-- The elements of chunk `k` of the input, of its copy, and of the output. -/
theorem xC_set (k : Fin 8) : (xC k).view.set = (chunkRect k).set := View.set_slice_whole main_arg0 (chunkRect k)
theorem vC_set (k : Fin 8) : (vC k).view.set = (chunkRect k).set := View.set_slice_whole cc0_scratch0 (chunkRect k)
theorem oC_set (k : Fin 8) : (oC k).view.set = (outRect k).set := View.set_slice_whole main_v1 (outRect k)

/-- Pieces held at given contents are held at some. -/
theorem some_each {n : ℕ} {B : Fin n → Type} (Φ : (k : Fin n) → B k → sProp 𝕄) (f : (k : Fin n) → B k) :
    (bigSep Finset.univ fun k => Φ k (f k)) ⊢ bigSep Finset.univ fun k => iprop(∃ x, Φ k x) :=
  bigSep_mono fun k _ => show Φ k (f k) ⊢ iprop(∃ x, Φ k x) by iintro H; iexists (f k); iexact H

/-- The chunks of the input are apart -/
theorem x_apart : ∀ k k' : Fin 8, k ≠ k' → Disjoint ((xC k).view.set : Finset S2x128x128x64.Idx) (xC k').view.set :=
  slabs_disjoint (fun i : S2x128x128x64.Idx => (i 1).val) fun k i => by rw [xC_set]; exact mem_chunkRect k i
/-- and make it up; -/
theorem x_all : Finset.biUnion (β := S2x128x128x64.Idx) (Finset.univ : Finset (Fin 8)) (fun k => (xC k).view.set) = Finset.univ :=
  slabs_cover (fun i : S2x128x128x64.Idx => (i 1).val) (fun k i => by rw [xC_set]; exact mem_chunkRect k i) (fun i => (i 1).isLt) (by decide)
/-- those of its copy are apart -/
theorem v_apart : ∀ k k' : Fin 8, k ≠ k' → Disjoint ((vC k).view.set : Finset S2x128x128x64.Idx) (vC k').view.set :=
  slabs_disjoint (fun i : S2x128x128x64.Idx => (i 1).val) fun k i => by rw [vC_set]; exact mem_chunkRect k i
/-- and make it up; -/
theorem v_all : Finset.biUnion (β := S2x128x128x64.Idx) (Finset.univ : Finset (Fin 8)) (fun k => (vC k).view.set) = Finset.univ :=
  slabs_cover (fun i : S2x128x128x64.Idx => (i 1).val) (fun k i => by rw [vC_set]; exact mem_chunkRect k i) (fun i => (i 1).isLt) (by decide)
/-- those of the output are apart -/
theorem o_apart : ∀ k k' : Fin 8, k ≠ k' → Disjoint ((oC k).view.set : Finset S2x128x128x128.Idx) (oC k').view.set :=
  slabs_disjoint (fun i : S2x128x128x128.Idx => (i 1).val) fun k i => by rw [oC_set]; exact mem_outRect k i
/-- and make it up. -/
theorem o_all : Finset.biUnion (β := S2x128x128x128.Idx) (Finset.univ : Finset (Fin 8)) (fun k => (oC k).view.set) = Finset.univ :=
  slabs_cover (fun i : S2x128x128x128.Idx => (i 1).val) (fun k i => by rw [oC_set]; exact mem_outRect k i) (fun i => (i 1).isLt) (by decide)

/-- The input block, held whole, is held chunk by chunk; -/
theorem x_pieces (c : Dev nD) (f : Buf (Elt F) ((c : Thread nD τ).loc main_arg0)) :
    (((c : Thread nD τ).loc main_arg0) ↦{fullShare} f : sProp 𝕄) = bigSep Finset.univ fun k : Fin 8 => held (xC k) c f :=
  Ring.pointsTo_blocks (ℓ := (c : Thread nD τ).loc main_arg0) (fun k : Fin 8 => (xC k).view.set) x_apart x_all f

/-- so is its copy, whatever it holds, -/
theorem v_pieces (c : Dev nD) :
    iprop(∃ f : Buf (Elt F) ((c : Thread nD τ).loc cc0_scratch0), ((c : Thread nD τ).loc cc0_scratch0) ↦{fullShare} f)
      ⊢ (bigSep Finset.univ fun k : Fin 8 => iprop(∃ f, held (F := F) (vC k) c f) : sProp 𝕄) := by
  iintro ⟨%f, H⟩
  iapply (some_each (fun (k : Fin 8) f => held (F := F) (vC k) c f) fun _ => f)
  iapply (Entails.of_eq (Ring.pointsTo_blocks (ℓ := (c : Thread nD τ).loc cc0_scratch0) (fun k : Fin 8 => (vC k).view.set) v_apart v_all f))
  iexact H

/-- which is whole again at the end. -/
theorem v_whole (c : Dev nD) :
    (bigSep Finset.univ fun k : Fin 8 => iprop(∃ f, held (F := F) (vC k) c f) : sProp 𝕄)
      ⊢ iprop(∃ f : Buf (Elt F) ((c : Thread nD τ).loc cc0_scratch0), ((c : Thread nD τ).loc cc0_scratch0) ↦{fullShare} f) :=
  Ring.pointsTo_blocks_join_exists (ℓ := (c : Thread nD τ).loc cc0_scratch0) (fun k : Fin 8 => (vC k).view.set) v_apart v_all (fun _ => default)

/-- The output block, held whole, is held chunk by chunk, -/
theorem o_pieces (c : Dev nD) (f : Buf (Elt F) ((c : Thread nD τ).loc main_v1)) :
    (((c : Thread nD τ).loc main_v1) ↦{fullShare} f : sProp 𝕄) ⊢ bigSep Finset.univ fun k : Fin 8 => iprop(∃ f, held (F := F) (oC k) c f) := by
  rw [Ring.pointsTo_blocks (ℓ := (c : Thread nD τ).loc main_v1) (fun k : Fin 8 => (oC k).view.set) o_apart o_all f]
  exact some_each (fun (k : Fin 8) f => held (F := F) (oC k) c f) fun _ => f

/-- and whole again at the end, reading as its chunks. -/
theorem o_whole (c : Dev nD) (w : Fin 8 → Vec F S1x2x16x128x128 .f32) :
    (bigSep Finset.univ fun k : Fin 8 => outPart k c (w k) : sProp 𝕄)
      ⊢ iprop(∃ f : Buf (Elt F) ((c : Thread nD τ).loc main_v1), (((c : Thread nD τ).loc main_v1) ↦{fullShare} f)
          ∗ ⌜∀ k : Fin 8, (oC k).view.read (Elt F) f = flat (w k)⌝) := by
  have : Nonempty (Buf (Elt F) ((c : Thread nD τ).loc main_v1)) := ⟨fun _ => default⟩
  refine (bigSep_exists_pi Finset.univ fun (k : Fin 8) (f : Buf (Elt F) ((c : Thread nD τ).loc main_v1)) =>
    (iprop(held (oC k) c f ∗ ⌜(oC k).view.read (Elt F) f = flat (w k)⌝) : sProp 𝕄)).trans ?_
  iintro ⟨%fs, H⟩
  ihave H := (show (bigSep Finset.univ fun k : Fin 8 => (iprop(held (oC k) c (fs k) ∗ ⌜(oC k).view.read (Elt F) (fs k) = flat (w k)⌝) : sProp 𝕄))
    ⊢ iprop(⌜∀ k ∈ (Finset.univ : Finset (Fin 8)), (oC k).view.read (Elt F) (fs k) = flat (w k)⌝ ∗ bigSep Finset.univ fun k : Fin 8 => held (oC k) c (fs k)) from
    (bigSep_mono fun k _ => show iprop(held (oC k) c (fs k) ∗ ⌜(oC k).view.read (Elt F) (fs k) = flat (w k)⌝)
      ⊢ iprop(⌜(oC k).view.read (Elt F) (fs k) = flat (w k)⌝ ∗ held (oC k) c (fs k)) from sep_comm.1).trans (bigSep_pure_sep _ _ _)) $$ H
  icases H with ⟨%hr, H⟩
  ihave H := (pointsTo_biUnion_join (ℓ := (c : Thread nD τ).loc main_v1) (q := fullShare) Finset.univ (fun k : Fin 8 => (oC k).view.set) fs (fun _ => default)
    (fun k _ k' _ h => o_apart k k' h)) $$ [H]
  · iexact H
  icases H with ⟨%g, %hg, H⟩
  iexists g
  isplitl [H]
  · rw [o_all]; iexact H
  · ipureintro
    intro k
    rw [← hr k (Finset.mem_univ k)]
    exact View.read_congr fun i hi => hg k (Finset.mem_univ k) i hi

/-! ## The output slots -/

/-- The elements of a slot of the stores. -/
theorem page_set (s : Fin 2) : (bC s).view.set = (pageRect s).set := (bC_set s).trans (View.set_slice_whole cc0_scratch1 (pageRect s))
/-- The output slots are apart -/
theorem page_apart : ∀ s s' : Fin 2, s ≠ s' → Disjoint ((bC s).view.set : Finset S2x2x16x128x128.Idx) (bC s').view.set :=
  slabs_disjoint (fun i : S2x2x16x128x128.Idx => (i 0).val) fun s i => by rw [page_set]; exact mem_pageRect s i
/-- and make up their buffer. -/
theorem page_all : Finset.biUnion (β := S2x2x16x128x128.Idx) (Finset.univ : Finset (Fin 2)) (fun s => (bC s).view.set) = Finset.univ :=
  slabs_cover (fun i : S2x2x16x128x128.Idx => (i 0).val) (fun s i => by rw [page_set]; exact mem_pageRect s i)
    (fun i => (i 0).isLt) (by decide)

/-- The two output slots make up their buffer. -/
theorem page_pieces (c : Dev nD) :
    iprop(∃ f : Buf (Elt F) ((c : Thread nD τ).loc cc0_scratch1), ((c : Thread nD τ).loc cc0_scratch1) ↦{fullShare} f)
      ⊢ (bigSep Finset.univ fun s : Fin 2 => iprop(∃ f, held (F := F) (bC s) c f) : sProp 𝕄) := by
  iintro ⟨%f, H⟩
  iapply (some_each (fun (s : Fin 2) f => held (F := F) (bC s) c f) fun _ => f)
  iapply (Entails.of_eq (Ring.pointsTo_blocks (ℓ := (c : Thread nD τ).loc cc0_scratch1) (fun s : Fin 2 => (bC s).view.set) page_apart page_all f))
  iexact H
/-- It is whole again from them. -/
theorem page_whole (c : Dev nD) :
    (bigSep Finset.univ fun s : Fin 2 => iprop(∃ f, held (F := F) (bC s) c f) : sProp 𝕄)
      ⊢ iprop(∃ f : Buf (Elt F) ((c : Thread nD τ).loc cc0_scratch1), ((c : Thread nD τ).loc cc0_scratch1) ↦{fullShare} f) :=
  Ring.pointsTo_blocks_join_exists (ℓ := (c : Thread nD τ).loc cc0_scratch1) (fun s : Fin 2 => (bC s).view.set) page_apart page_all (fun _ => default)

/-! ## The slots of the exchange -/

/-- The elements of a slot of the send buffer. -/
theorem send_set (j : Fin 3) : (slot sM j).view.set = (slotRect j).set := (slot_set sM j).trans (View.set_slice_whole cc0_scratch2 (slotRect j))
/-- Its slots are apart -/
theorem send_apart : ∀ j j' : Fin 3, j ≠ j' → Disjoint ((slot sM j).view.set : Finset S3x4x64.Idx) (slot sM j').view.set :=
  slabs_disjoint (fun i : S3x4x64.Idx => (i 0).val) fun j i => by rw [send_set]; exact mem_slotRect j i
/-- and make it up. -/
theorem send_all : Finset.biUnion (β := S3x4x64.Idx) (Finset.univ : Finset (Fin 3)) (fun j => (slot sM j).view.set) = Finset.univ :=
  slabs_cover (fun i : S3x4x64.Idx => (i 0).val) (fun j i => by rw [send_set]; exact mem_slotRect j i) (fun i => (i 0).isLt) (by decide)
/-- The elements of a slot of the receive buffer. -/
theorem recv_set (j : Fin 3) : (slot rM j).view.set = (slotRect j).set := (slot_set rM j).trans (View.set_slice_whole cc0_scratch3 (slotRect j))
/-- Its slots are apart -/
theorem recv_apart : ∀ j j' : Fin 3, j ≠ j' → Disjoint ((slot rM j).view.set : Finset S3x4x64.Idx) (slot rM j').view.set :=
  slabs_disjoint (fun i : S3x4x64.Idx => (i 0).val) fun j i => by rw [recv_set]; exact mem_slotRect j i
/-- and make it up. -/
theorem recv_all : Finset.biUnion (β := S3x4x64.Idx) (Finset.univ : Finset (Fin 3)) (fun j => (slot rM j).view.set) = Finset.univ :=
  slabs_cover (fun i : S3x4x64.Idx => (i 0).val) (fun j i => by rw [recv_set]; exact mem_slotRect j i) (fun i => (i 0).isLt) (by decide)

/-- The three send slots make up their buffer, -/
theorem send_pieces (c : Dev nD) :
    iprop(∃ f : Buf (Elt F) ((c : Thread nD τ).loc cc0_scratch2), ((c : Thread nD τ).loc cc0_scratch2) ↦{fullShare} f)
      ⊢ (bigSep Finset.univ fun j : Fin 3 => sendPay (F := F) j c : sProp 𝕄) := by
  iintro ⟨%f, H⟩
  iapply (some_each (fun (j : Fin 3) f => slotPts (F := F) sM j c f) fun _ => f)
  iapply (Entails.of_eq (Ring.pointsTo_blocks (ℓ := (c : Thread nD τ).loc cc0_scratch2) (fun j : Fin 3 => (slot sM j).view.set) send_apart send_all f))
  iexact H
/-- Their buffer is whole again from them, -/
theorem send_whole (c : Dev nD) :
    (bigSep Finset.univ fun j : Fin 3 => sendPay (F := F) j c : sProp 𝕄)
      ⊢ iprop(∃ f : Buf (Elt F) ((c : Thread nD τ).loc cc0_scratch2), ((c : Thread nD τ).loc cc0_scratch2) ↦{fullShare} f) :=
  Ring.pointsTo_blocks_join_exists (ℓ := (c : Thread nD τ).loc cc0_scratch2) (fun j : Fin 3 => (slot sM j).view.set) send_apart send_all (fun _ => default)

/-- and so do the three receive slots. -/
theorem recv_pieces (c : Dev nD) :
    iprop(∃ f : Buf (Elt F) ((c : Thread nD τ).loc cc0_scratch3), ((c : Thread nD τ).loc cc0_scratch3) ↦{fullShare} f)
      ⊢ (bigSep Finset.univ fun j : Fin 3 => iprop(∃ f, slotPts (F := F) rM j c f) : sProp 𝕄) := by
  iintro ⟨%f, H⟩
  iapply (some_each (fun (j : Fin 3) f => slotPts (F := F) rM j c f) fun _ => f)
  iapply (Entails.of_eq (Ring.pointsTo_blocks (ℓ := (c : Thread nD τ).loc cc0_scratch3) (fun j : Fin 3 => (slot rM j).view.set) recv_apart recv_all f))
  iexact H
/-- Theirs too is whole again from them. -/
theorem recv_whole (c : Dev nD) :
    (bigSep Finset.univ fun j : Fin 3 => iprop(∃ f, slotPts (F := F) rM j c f) : sProp 𝕄)
      ⊢ iprop(∃ f : Buf (Elt F) ((c : Thread nD τ).loc cc0_scratch3), ((c : Thread nD τ).loc cc0_scratch3) ↦{fullShare} f) :=
  Ring.pointsTo_blocks_join_exists (ℓ := (c : Thread nD τ).loc cc0_scratch3) (fun j : Fin 3 => (slot rM j).view.set) recv_apart recv_all (fun _ => default)

end Cert.KernelIdeal.Exchange
-- ==== Proof.WholeKernelIdeal.lean ====
/- The body on device `c` from whole buffers to whole buffers. -/
module

public import proofs.«01_k».proof.Proof.MeetKernelIdeal
public import proofs.«01_k».proof.Proof.OutKernelIdeal
public import proofs.«01_k».proof.Proof.PiecesKernelIdeal

@[expose] public section

set_option maxRecDepth 65536

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 7 → ℕ)

omit [FloatOps F] in
/-- Separating products over two, three and eight, written out. -/
theorem two (Φ : Fin 2 → sProp 𝕄) : bigSep Finset.univ Φ = iprop(Φ 0 ∗ Φ 1) := bigSep_univ_eq_bigSepL [0, 1] (by decide) (by decide) Φ
omit [FloatOps F] in
theorem three (Φ : Fin 3 → sProp 𝕄) : bigSep Finset.univ Φ = iprop(Φ 0 ∗ Φ 1 ∗ Φ 2) := bigSep_univ_eq_bigSepL [0, 1, 2] (by decide) (by decide) Φ
omit [FloatOps F] in
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What device `c` knows and holds of the exchange when the body starts. -/
def ghost (c : Dev nD) : sProp 𝕄 :=
  iprop((cellInv ER (xchg m) (K (c, barIx)) (barCell c) ∗ known m K 0 c ∗ known m K 1 c ∗ known m K 2 c)
    ∗ atPos ER (barCell c) 0 ∅ 0
    ∗ (atPos ER (sendCell 0 c) 0 ∅ 0 ∗ atPos ER (sendCell 1 c) 0 ∅ 0 ∗ atPos ER (sendCell 2 c) 0 ∅ 0)
    ∗ (atPos ER (recvCell 0 c) 0 ∅ 0 ∗ atPos ER (recvCell 1 c) 0 ∅ 0 ∗ atPos ER (recvCell 2 c) 0 ∅ 0)
    ∗ (dutyTok ER (barCell (mate 0 c)) 0 0 ∗ dutyTok ER (barCell (mate 1 c)) 0 1 ∗ dutyTok ER (barCell (mate 2 c)) 0 2)
    ∗ ((dutyTok ER (sendCell 0 c) 0 0 ∗ dutyTok ER (recvCell 0 (mate 0 c)) 0 0) ∗ (dutyTok ER (sendCell 1 c) 0 0 ∗ dutyTok ER (recvCell 1 (mate 1 c)) 0 0) ∗ (dutyTok ER (sendCell 2 c) 0 0 ∗ dutyTok ER (recvCell 2 (mate 2 c)) 0 0)))

/-- The credits it may wait with. -/
def credits (c : Dev nD) : sProp 𝕄 :=
  iprop(cred (tallyAt (barCell c) () 3) ∗ cred (tallyAt (recvCell 0 c) () N) ∗ cred (tallyAt (recvCell 1 c) () N) ∗ cred (tallyAt (recvCell 2 c) () N))

/-- The counters of the local copies, at zero. -/
def localSems (c : Dev nD) : sProp 𝕄 :=
  iprop((bigSep Finset.univ fun k : Fin 8 => semVal ((c : Thread nD τ), .dma (loadS k)) 0)
    ∗ bigSep Finset.univ fun s : Fin 2 => semVal ((c : Thread nD τ), .dma (storeS s)) 0)

/-- The counters of the exchange, at zero. -/
def meetSems (c : Dev nD) : sProp 𝕄 :=
  iprop((bigSep Finset.univ fun j : Fin 3 => semVal (sendCell j c) 0) ∗ (bigSep Finset.univ fun j : Fin 3 => semVal (recvCell j c) 0)
    ∗ semVal (barCell c) 0)

/-- The four scratch buffers, whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The input block, as it was at the start; -/
def xBlock (c : Dev nD) : sProp 𝕄 := ((c : Thread nD τ).loc main_arg0) ↦{fullShare} m ((c : Thread nD τ).loc main_arg0)
/-- and the output block, reading chunk by chunk as the kernel computes it. -/
def oBlock (c : Dev nD) (g : Vec F S64x128 .f32) : sProp 𝕄 :=
  iprop(∃ f : Buf (Elt F) ((c : Thread nD τ).loc main_v1), (((c : Thread nD τ).loc main_v1) ↦{fullShare} f)
    ∗ ⌜∀ k : Fin 8, (oC k).view.read (Elt F) f = flat (outPage m c g k)⌝)

/-- The input chunks and their copies, ready to be loaded, from the whole buffers; -/
theorem loads_ready (c : Dev nD) :
    iprop(xBlock m c ∗ (∃ f : Buf (Elt F) ((c : Thread nD τ).loc cc0_scratch0), ((c : Thread nD τ).loc cc0_scratch0) ↦{fullShare} f)
        ∗ bigSep Finset.univ fun k : Fin 8 => semVal ((c : Thread nD τ), .dma (loadS k)) 0)
      ⊢ (bigSep Finset.univ fun k : Fin 8 => loadIdle m k c : sProp 𝕄) := by
  unfold xBlock loadIdle xPart
  rw [x_pieces, bigSep_sep', bigSep_sep']
  iintro ⟨Hx, Hv, Hs⟩
  isplitl [Hx]; · iexact Hx
  isplitl [Hv]; · iapply (v_pieces (F := F) c); iexact Hv
  iexact Hs

/-- and back. -/
theorem loads_back (c : Dev nD) :
    (bigSep Finset.univ fun k : Fin 8 => loadDone m k c : sProp 𝕄)
      ⊢ iprop(xBlock m c ∗ (∃ f : Buf (Elt F) ((c : Thread nD τ).loc cc0_scratch0), ((c : Thread nD τ).loc cc0_scratch0) ↦{fullShare} f)
        ∗ bigSep Finset.univ fun k : Fin 8 => semVal ((c : Thread nD τ), .dma (loadS k)) 0) := by
  refine (bigSep_mono (Ψ := fun k : Fin 8 => iprop(xPart m k c ∗ (∃ f, held (F := F) (vC k) c f) ∗ semVal ((c : Thread nD τ), .dma (loadS k)) 0)) fun k _ =>
    show loadDone m k c ⊢ iprop(xPart m k c ∗ (∃ f, held (F := F) (vC k) c f) ∗ semVal ((c : Thread nD τ), .dma (loadS k)) 0) from by
      unfold loadDone
      iintro ⟨Hx, ⟨%f, Hv, -⟩, Hs⟩
      isplitl [Hx]; · iexact Hx
      isplitl [Hv]; · iexists f; iexact Hv
      iexact Hs).trans ?_
  unfold xBlock xPart
  rw [x_pieces, bigSep_sep', bigSep_sep']
  refine show iprop((bigSep Finset.univ fun k : Fin 8 => held (xC k) c (m ((c : Thread nD τ).loc main_arg0)))
    ∗ (bigSep Finset.univ fun k : Fin 8 => iprop(∃ f, held (F := F) (vC k) c f))
    ∗ bigSep Finset.univ fun k : Fin 8 => semVal ((c : Thread nD τ), .dma (loadS k)) 0) ⊢ _ from ?_
  iintro ⟨Hx, Hv, Hs⟩
  isplitl [Hx]; · iexact Hx
  isplitl [Hv]; · iapply (v_whole (F := F) c); iexact Hv
  iexact Hs

/-- The receive slots, after the exchange, make up their buffer. -/
theorem recvs_back (c : Dev nD) :
    (bigSep Finset.univ fun j : Fin 3 => recvPay m j c : sProp 𝕄)
      ⊢ iprop(∃ f : Buf (Elt F) ((c : Thread nD τ).loc cc0_scratch3), ((c : Thread nD τ).loc cc0_scratch3) ↦{fullShare} f) :=
  (bigSep_mono fun j _ => show recvPay m j c ⊢ iprop(∃ f, slotPts (F := F) rM j c f) from by
    unfold recvPay
    iintro ⟨%f, H, -⟩
    iexists f; iexact H).trans (recv_whole c)

/-- The output slots with their counters, from the buffer, -/
theorem pages_ready (c : Dev nD) :
    iprop((∃ f : Buf (Elt F) ((c : Thread nD τ).loc cc0_scratch1), ((c : Thread nD τ).loc cc0_scratch1) ↦{fullShare} f)
        ∗ bigSep Finset.univ fun s : Fin 2 => semVal ((c : Thread nD τ), .dma (storeS s)) 0)
      ⊢ (bigSep Finset.univ fun s : Fin 2 => pageFree (F := F) s c : sProp 𝕄) := by
  unfold pageFree
  rw [bigSep_sep']
  iintro ⟨Hb, Hs⟩
  isplitl [Hb]; · iapply (page_pieces (F := F) c); iexact Hb
  iexact Hs

/-- and back. -/
theorem pages_back (c : Dev nD) :
    (bigSep Finset.univ fun s : Fin 2 => pageFree (F := F) s c : sProp 𝕄)
      ⊢ iprop((∃ f : Buf (Elt F) ((c : Thread nD τ).loc cc0_scratch1), ((c : Thread nD τ).loc cc0_scratch1) ↦{fullShare} f)
        ∗ bigSep Finset.univ fun s : Fin 2 => semVal ((c : Thread nD τ), .dma (storeS s)) 0) := by
  unfold pageFree
  rw [bigSep_sep']
  refine show iprop((bigSep Finset.univ fun s : Fin 2 => iprop(∃ f, held (F := F) (bC s) c f))
    ∗ bigSep Finset.univ fun s : Fin 2 => semVal ((c : Thread nD τ), .dma (storeS s)) 0) ⊢ _ from ?_
  iintro ⟨Hb, Hs⟩
  isplitl [Hb]; · iapply (page_whole (F := F) c); iexact Hb
  iexact Hs

/-- The exchange's cells close after their round: their counters are the device's again, at zero. -/
theorem cells_close (c : Dev nD) :
    iprop(knows m K c ∗ atPos ER (barCell c) (0 + 1) ∅ 0 ∗ (atPos ER (sendCell 0 c) (0 + 1) ∅ 0 ∗ atPos ER (sendCell 1 c) (0 + 1) ∅ 0 ∗ atPos ER (sendCell 2 c) (0 + 1) ∅ 0) ∗ (atPos ER (recvCell 0 c) (0 + 1) ∅ 0 ∗ atPos ER (recvCell 1 c) (0 + 1) ∅ 0 ∗ atPos ER (recvCell 2 c) (0 + 1) ∅ 0))
      ⊢ |={Set.univ}=> meetSems c := by
  unfold knows known meetSems
  rw [three, three]
  iintro ⟨⟨#HIb, ⟨#Is0, #Ir0, -⟩, ⟨#Is1, #Ir1, -⟩, ⟨#Is2, #Ir2, -⟩, -⟩, HB, ⟨HS0, HS1, HS2⟩, HR0, HR1, HR2⟩
  imod (Rounds.cell_close ER (xchg m) (Set.mem_univ (K (c, barIx))) (fun h => h) (R := 0 + 1) (duties_later m (barCell c))) $$ [HB] with HB
  · isplitr; · iexact HIb
    iexact HB
  imod (Rounds.cell_close ER (xchg m) (Set.mem_univ (K (c, sendIx 0))) (fun h => h) (R := 0 + 1) (duties_later m (sendCell 0 c))) $$ [HS0] with HS0
  · isplitr; · iexact Is0
    iexact HS0
  imod (Rounds.cell_close ER (xchg m) (Set.mem_univ (K (c, sendIx 1))) (fun h => h) (R := 0 + 1) (duties_later m (sendCell 1 c))) $$ [HS1] with HS1
  · isplitr; · iexact Is1
    iexact HS1
  imod (Rounds.cell_close ER (xchg m) (Set.mem_univ (K (c, sendIx 2))) (fun h => h) (R := 0 + 1) (duties_later m (sendCell 2 c))) $$ [HS2] with HS2
  · isplitr; · iexact Is2
    iexact HS2
  imod (Rounds.cell_close ER (xchg m) (Set.mem_univ (K (c, recvIx 0))) (fun h => h) (R := 0 + 1) (duties_later m (recvCell 0 c))) $$ [HR0] with HR0
  · isplitr; · iexact Ir0
    iexact HR0
  imod (Rounds.cell_close ER (xchg m) (Set.mem_univ (K (c, recvIx 1))) (fun h => h) (R := 0 + 1) (duties_later m (recvCell 1 c))) $$ [HR1] with HR1
  · isplitr; · iexact Ir1
    iexact HR1
  imod (Rounds.cell_close ER (xchg m) (Set.mem_univ (K (c, recvIx 2))) (fun h => h) (R := 0 + 1) (duties_later m (recvCell 2 c))) $$ [HR2] with HR2
  · isplitr; · iexact Ir2
    iexact HR2
  imodintro
  isplitl [HS0 HS1 HS2]
  · isplitl [HS0]; · iexact HS0
    isplitl [HS1] <;> iassumption
  isplitl [HR0 HR1 HR2]
  · isplitl [HR0]; · iexact HR0
    isplitl [HR1] <;> iassumption
  iexact HB

set_option maxHeartbeats 1600000 in
/-- The body on device `c`: from its block of the input, its own buffers and its part in the exchange to its block of the
    output, with every counter at zero. -/
theorem body_runs (c : Dev nD) (g : Vec F S64x128 .f32) (Kt : PUnit → sProp 𝕄) :
    iprop(ghost m K c ∗ levAts L lv ∗ credits (F := F) c ∗ localSems (F := F) c ∗ xBlock m c
        ∗ (∃ f : Buf (Elt F) ((c : Thread nD τ).loc main_v1), ((c : Thread nD τ).loc main_v1) ↦{fullShare} f)
        ∗ scratch (F := F) c ∗ owing c (O₀ c) ∗ wHeld c g
        ∗ ((xBlock m c ∗ oBlock m c g ∗ scratch (F := F) c ∗ localSems (F := F) c ∗ meetSems (F := F) c ∗ owing c 0 ∗ wHeld c g) -∗ Kt ⟨⟩))
      ⊢ wp frame (wpE (defs₀ (F := F)) 𝒱₀ (c : Thread nD τ) none) Set.univ (bodyAt0 t0_0) Kt := by
  rw [body_stretches]
  unfold ghost credits localSems scratch
  iintro ⟨⟨⟨#HIb, #Hk0, #Hk1, #Hk2⟩, HaB, HaS, HaR, ⟨Hb0, Hb1, Hb2⟩, Htok⟩, #Hlev, ⟨HcB, HcR⟩, ⟨HsL, HsS⟩, Hx, ⟨%fo, Ho⟩, ⟨Hv, Hp, Hsnd, Hrcv⟩, HO, Hw, Hk⟩
  ihave Hl := (loads_ready m c) $$ [Hx Hv HsL]
  · isplitl [Hx]; · iexact Hx
    isplitl [Hv] <;> iassumption
  ihave Hp := (pages_ready (F := F) c) $$ [Hp HsS]
  · isplitl [Hp] <;> iassumption
  ihave Ho := (o_pieces c fo) $$ Ho
  ihave Hsnd := (send_pieces (F := F) c) $$ Hsnd
  ihave Hrcv := (recv_pieces (F := F) c) $$ Hrcv
  ihave Hl := (Entails.of_eq (eight fun k : Fin 8 => loadIdle m k c)) $$ Hl
  ihave Hp := (Entails.of_eq (two fun s : Fin 2 => pageFree (F := F) s c)) $$ Hp
  ihave Ho := (Entails.of_eq (eight fun k : Fin 8 => iprop(∃ f, held (F := F) (oC k) c f))) $$ Ho
  ihave Hsnd := (Entails.of_eq (three fun j : Fin 3 => sendPay (F := F) j c)) $$ Hsnd
  ihave Hrcv := (Entails.of_eq (three fun j : Fin 3 => iprop(∃ f, slotPts (F := F) rM j c f))) $$ Hrcv
  icases Hsnd with ⟨Hs0, Hs1, Hs2⟩
  icases Hrcv with ⟨Hr0, Hr1, Hr2⟩
  ihave #Hkn := (show iprop(cellInv ER (xchg m) (K (c, barIx)) (barCell c) ∗ known m K 0 c ∗ known m K 1 c ∗ known m K 2 c ∗ levAts L lv) ⊢ knows m K c from by unfold knows; exact .rfl) $$ []
  · isplitr; · iexact HIb
    isplitr; · iexact Hk0
    isplitr; · iexact Hk1
    isplitr; · iexact Hk2
    iexact Hlev
  iapply (stretch1_runs m K c Kt)
  isplitr; · iexact Hkn
  isplitl [HO]; · iexact HO
  isplitl [HcB HaB]
  · isplitl [HcB] <;> iassumption
  isplitl [Hb0 Hr0 Hb1 Hr1 Hb2 Hr2]
  · unfold entry
    isplitl [Hb0 Hr0]
    · isplitl [Hb0] <;> iassumption
    isplitl [Hb1 Hr1]
    · isplitl [Hb1] <;> iassumption
    isplitl [Hb2] <;> iassumption
  isplitl [Hs0]; · iexact Hs0
  isplitl [Hl]; · iexact Hl
  iintro %v2 %v124 ⟨HO, HaB, Hb, Hs0, ⟨Hl0, Hl⟩⟩
  iapply (stretch2_runs m K c g v2 v124 Kt)
  isplitr; · iexact Hkn
  isplitl [HO]; · iexact HO
  isplitl [Hb]; · iexact Hb
  isplitl [Hs0 Hs1 Hs2]
  · isplitl [Hs0]; · iexact Hs0
    isplitl [Hs1] <;> iassumption
  isplitl [HaS]; · iexact HaS
  isplitl [HaR]; · iexact HaR
  isplitl [HcR]; · iexact HcR
  isplitl [Htok]; · iexact Htok
  isplitl [Hw]; · iexact Hw
  isplitl [Hl0]; · iexact Hl0
  iintro ⟨HO, Hsnd, Hrcv, HaS, HaR, Hw, Hl0⟩
  imod (cells_close m K c) $$ [HaB HaS HaR] with Hz
  · isplitr; · iexact Hkn
    isplitl [HaB]; · iexact HaB
    isplitl [HaS] <;> iassumption
  iapply (stretch3_runs m c g Kt)
  isplitl [HO]; · iexact HO
  isplitl [Hp]; · iexact Hp
  isplitl [Hl]; · iexact Hl
  isplitl [Ho]; · unfold outIdle; iexact Ho
  iintro ⟨HO, Hp, Hl, Ho⟩
  ihave Hl := (Entails.of_eq (eight fun k : Fin 8 => loadDone m k c).symm) $$ [Hl0 Hl]
  · isplitl [Hl0] <;> iassumption
  ihave Hl := (loads_back m c) $$ Hl
  icases Hl with ⟨Hx, Hv, HsL⟩
  ihave Hp := (Entails.of_eq (two fun s : Fin 2 => pageFree (F := F) s c).symm) $$ Hp
  ihave Hp := (pages_back (F := F) c) $$ Hp
  icases Hp with ⟨Hp, HsS⟩
  ihave Ho := (Entails.of_eq (eight fun k : Fin 8 => outPart k c (outPage m c g k)).symm) $$ Ho
  ihave Ho := (o_whole c (outPage m c g)) $$ Ho
  ihave Hsnd := (Entails.of_eq (three fun j : Fin 3 => sendPay (F := F) j c).symm) $$ Hsnd
  ihave Hsnd := (send_whole (F := F) c) $$ Hsnd
  ihave Hrcv := (Entails.of_eq (three fun j : Fin 3 => recvPay m j c).symm) $$ Hrcv
  ihave Hrcv := (recvs_back m c) $$ Hrcv
  iapply Hk
  isplitl [Hx]; · iexact Hx
  isplitl [Ho]; · unfold oBlock; iexact Ho
  isplitl [Hv Hp Hsnd Hrcv]
  · isplitl [Hv]; · iexact Hv
    isplitl [Hp]; · iexact Hp
    isplitl [Hsnd] <;> iassumption
  isplitl [HsL HsS]
  · isplitl [HsL] <;> iassumption
  isplitl [Hz]; · iexact Hz
  isplitl [HO] <;> iassumption

end Cert.KernelIdeal.Exchange
-- ==== Proof.LaunchKernelIdeal.lean ====
/-
# The launch

The cells of the exchange are made for all devices at once, each device is dealt what it knows, its positions, the
tokens of the duties it pays and the credits of what it is owed; with the body's theorem this is the run of the whole
program: it ends with every counter at zero, the inputs as they were, and each device's result reading, chunk by chunk,
what its body computes from its block of `x`, its mates' sums and `Wp`.
-/
module

public import proofs.«01_k».proof.Proof.WholeKernelIdeal
public import Idealize.ShloMosaic.Lib.Pipeline.CollectiveSegs

@[expose] public section

set_option maxRecDepth 65536

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores and the exchange's cells -/

/-- The kernel's own DMA semaphores: eight for the loads, two for the stores, three for sending, three for receiving. -/
def osem (k : Fin 16) : SemLoc sig := .dma ⟨1 + k.val, by have := k.isLt; show 1 + k.val < 17; omega⟩

/-- They are sixteen, all different, and all the kernel has of its own. -/
theorem ownSemFacts : Pipeline.OwnSemFacts cfg0.spec osem := by decide

/-- The exchange's semaphores, numbered as the names of their invariants are. -/
def csem : Fin 7 → SemLoc sig := ![.reg barS, .dma (sendS 0), .dma (sendS 1), .dma (sendS 2), .dma (recvS 0), .dma (recvS 1), .dma (recvS 2)]

/-- The seven are different. -/
theorem csem_injective : Function.Injective csem := by decide

/-- The cell of semaphore number `ck.2` on device `ck.1`. -/
abbrev kcell (ck : Dev nD × Fin 7) : GSem nD τ sig := ((ck.1 : Thread nD τ), csem ck.2)

/-- By number: the barrier cell, the send cells and the receive cells. -/
theorem kcell_bar (c : Dev nD) : kcell (c, barIx) = barCell c := rfl
theorem kcell_send (j : Fin 3) (c : Dev nD) : kcell (c, sendIx j) = sendCell j c := by fin_cases j <;> rfl
theorem kcell_recv (j : Fin 3) (c : Dev nD) : kcell (c, recvIx j) = recvCell j c := by fin_cases j <;> rfl

/-- Equal cells lie on one device. -/
theorem device_eq {a b : Dev nD} {s t : SemLoc sig} (h : (((a : Thread nD τ), s) : GSem nD τ sig) = ((b : Thread nD τ), t)) : a = b :=
  congrArg (fun g : GSem nD τ sig => g.1.1) h

/-- Different numbers or devices, different cells. -/
theorem kcell_injective : Function.Injective (kcell : Dev nD × Fin 7 → GSem nD τ sig) := fun p q h =>
  Prod.ext (device_eq h) (csem_injective (congrArg Prod.snd h))

/-- The cells of the exchange on all devices. -/
def theCells : Finset (GSem nD τ sig) := Finset.univ.map ⟨kcell, kcell_injective⟩

/-- The duties of a device's own cells: three of its barrier cell, one of each send cell, one of each receive cell. -/
def duty : Fin 3 × Fin 3 → SemLoc sig × Fin 3
  | (0, j) => (.reg barS, j)
  | (1, j) => (.dma (sendS j), 0)
  | (2, j) => (.dma (recvS j), 0)

/-- Different duties have different names. -/
theorem duty_injective : Function.Injective duty := by decide

/-- The name of the token of a duty of a device. -/
abbrev tokOf (cp : Dev nD × (Fin 3 × Fin 3)) : GSem nD τ sig × ℕ × Fin 3 := (((cp.1 : Thread nD τ), (duty cp.2).1), 0, (duty cp.2).2)

/-- The tokens are different. -/
theorem tokOf_injective : Function.Injective (tokOf : Dev nD × (Fin 3 × Fin 3) → GSem nD τ sig × ℕ × Fin 3) := fun p q h =>
  Prod.ext (device_eq (congrArg Prod.fst h))
    (duty_injective (Prod.ext (congrArg (fun x : GSem nD τ sig × ℕ × Fin 3 => x.1.2) h) (congrArg (fun x : GSem nD τ sig × ℕ × Fin 3 => x.2.2) h)))

/-- The tokens of all duties on all devices. -/
def theToks : Finset (GSem nD τ sig × ℕ × Fin 3) := Finset.univ.map ⟨tokOf, tokOf_injective⟩

/-- The ghost state at the start: the pipeline's, that of the exchange, and no count. -/
def u₀ : UU := (initOf (Pipeline.cells cfgs cellOf_inj) (Pipeline.launchToks cfgs cellOf_inj), (initOf theCells theToks, (1 : Counters)))

/-! ## Dealing -/

/-- The tokens of a device's own cells, as minted; -/
def toks (c : Dev nD) : sProp 𝕄 :=
  iprop((bigSep Finset.univ fun j : Fin 3 => dutyTok ER (barCell c) 0 j) ∗ (bigSep Finset.univ fun j : Fin 3 => dutyTok ER (sendCell j c) 0 0)
    ∗ bigSep Finset.univ fun j : Fin 3 => dutyTok ER (recvCell j c) 0 0)
/-- and the tokens of the duties it pays. -/
def payToks (c : Dev nD) : sProp 𝕄 :=
  iprop((bigSep Finset.univ fun j : Fin 3 => dutyTok ER (barCell (mate j c)) 0 j) ∗ (bigSep Finset.univ fun j : Fin 3 => dutyTok ER (sendCell j c) 0 0)
    ∗ bigSep Finset.univ fun j : Fin 3 => dutyTok ER (recvCell j (mate j c)) 0 0)

/-- A device stands before the first round at each of its cells. -/
def positions (c : Dev nD) : sProp 𝕄 := bigSep Finset.univ fun k : Fin 7 => atPos ER (kcell (c, k)) 0 ∅ 0

/-- What the launch's element deals a device. -/
def G (c : Dev nD) : sProp 𝕄 :=
  iprop((bigSep Finset.univ fun k : Fin 7 => roundState ER (xchg m) (kcell (c, k)) 0)
    ∗ positions c ∗ (bigSep Finset.univ fun k : Fin 7 => reached ER (kcell (c, k)) 0) ∗ toks c)

/-- What it has of the exchange when its body starts, with its local counters. -/
def G' (c : Dev nD) : sProp 𝕄 := iprop((∃ K, ghost m K c) ∗ localSems c)

omit [FloatOps F] in
/-- A separating product over seven, written out. -/
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The exchange's ghost state is dealt: every device gets its part. -/
theorem fund_exchange : BI.own (ER (initOf theCells theToks)) ⊢ (|==> bigSep Finset.univ (G m) : sProp 𝕄) := by
  have hC (Φ : GSem nD τ sig → sProp 𝕄) : bigSep theCells Φ = bigSep Finset.univ fun c : Dev nD => bigSep Finset.univ fun k : Fin 7 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_prod, three]; rfl
  iintro HX
  imod (Rounds.fund ER (xchg m) theCells theToks) $$ HX with ⟨Hst, Hr, Hat, Htok⟩
  imodintro
  unfold G positions; simp only [bigSep_sep']
  isplitl [Hst]; · iapply (Entails.of_eq (hC fun g => roundState ER (xchg m) g 0)); iexact Hst
  isplitl [Hat]; · iapply (Entails.of_eq (hC fun g => atPos ER g 0 ∅ 0)); iexact Hat
  isplitl [Hr]; · iapply (Entails.of_eq (hC fun g => reached ER g 0)); iexact Hr
  iapply (Entails.of_eq hT); iexact Htok

omit [FloatOps F] in
/-- The kernel's own semaphores at zero are those of the local copies and those of the exchange's copies. -/
theorem ownSems0_eq (c : Dev nD) : (Pipeline.ownSems0 (Ix := Unit) (Name := ℕ) (U := UU) (Lvl := ℕ) (Val := Elt F) (τ := τ) osem c : sProp 𝕄)
    = iprop(localSems (F := F) c ∗ (bigSep Finset.univ fun j : Fin 3 => semVal (sendCell j c) 0) ∗ bigSep Finset.univ fun j : Fin 3 => semVal (recvCell j c) 0) := by
  rw [Pipeline.ownSems0_eq_of_list c osem [0, 1, 2, 3, 4, 5, 6, 7, 8, 9, 10, 11, 12, 13, 14, 15] (by decide) (by decide)]
  unfold localSems
  rw [eight, two, three, three]
  refine equiv_iff.mp ⟨(?_ : (_ : sProp 𝕄) ⊢ _), (?_ : (_ : sProp 𝕄) ⊢ _)⟩
  · show iprop(semVal _ 0 ∗ semVal _ 0 ∗ semVal _ 0 ∗ semVal _ 0 ∗ semVal _ 0 ∗ semVal _ 0 ∗ semVal _ 0 ∗ semVal _ 0 ∗ semVal _ 0 ∗ semVal _ 0
      ∗ semVal _ 0 ∗ semVal _ 0 ∗ semVal _ 0 ∗ semVal _ 0 ∗ semVal _ 0 ∗ semVal _ 0) ⊢ _
    iintro ⟨H0, H1, H2, H3, H4, H5, H6, H7, H8, H9, Ha, Hb, Hc, Hd, He, Hf⟩
    isplitl [H0 H1 H2 H3 H4 H5 H6 H7 H8 H9]
    · isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6] <;> [iexact H6; iexact H7]
      isplitl [H8] <;> [iexact H8; iexact H9]
    isplitl [Ha Hb Hc]
    · isplitl [Ha]; · iexact Ha
      isplitl [Hb] <;> [iexact Hb; iexact Hc]
    isplitl [Hd]; · iexact Hd
    isplitl [He] <;> [iexact He; iexact Hf]
  · show _ ⊢ iprop(semVal _ 0 ∗ semVal _ 0 ∗ semVal _ 0 ∗ semVal _ 0 ∗ semVal _ 0 ∗ semVal _ 0 ∗ semVal _ 0 ∗ semVal _ 0 ∗ semVal _ 0 ∗ semVal _ 0
      ∗ semVal _ 0 ∗ semVal _ 0 ∗ semVal _ 0 ∗ semVal _ 0 ∗ semVal _ 0 ∗ semVal _ 0)
    iintro ⟨⟨⟨H0, H1, H2, H3, H4, H5, H6, H7⟩, H8, H9⟩, ⟨Ha, Hb, Hc⟩, Hd, He, Hf⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Ha]; · iexact Ha
    isplitl [Hb]; · iexact Hb
    isplitl [Hc]; · iexact Hc
    isplitl [Hd]; · iexact Hd
    isplitl [He] <;> [iexact He; iexact Hf]

omit [FloatOps F] in
/-- The barrier's counter is the one that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 7 => iprop(∃ κ : ℕ, cellInv ER (xchg m) κ (kcell (c, k))))
          ∗ (bigSep Finset.univ fun k : Fin 7 => reached ER (kcell (c, k)) 0) ∗ positions c ∗ toks c ∗ localSems c) := by
  unfold G
  rw [ownSems0_eq, unscopedSems0_eq]
  iintro ⟨⟨Hl, Hs, Hr⟩, Hb, Hst, Hat, Hre, Htok⟩
  ihave Hv := (show iprop(semVal (barCell c) 0 ∗ (bigSep Finset.univ fun j : Fin 3 => semVal (sendCell j c) 0) ∗ bigSep Finset.univ fun j : Fin 3 => semVal (recvCell j c) 0)
      ⊢ (bigSep Finset.univ fun k : Fin 7 => semVal (kcell (c, k)) 0 : sProp 𝕄) from by
        rw [three, three, seven]
        iintro ⟨H0, ⟨H1, H2, H3⟩, H4, H5, H6⟩
        isplitl [H0]; · iexact H0
        isplitl [H1]; · iexact H1
        isplitl [H2]; · iexact H2
        isplitl [H3]; · iexact H3
        isplitl [H4]; · iexact H4
        isplitl [H5] <;> [iexact H5; iexact H6]) $$ [Hb Hs Hr]
  · isplitl [Hb]; · iexact Hb
    isplitl [Hs] <;> iassumption
  imod (show iprop((bigSep Finset.univ fun k : Fin 7 => semVal (kcell (c, k)) 0) ∗ bigSep Finset.univ fun k : Fin 7 => roundState ER (xchg m) (kcell (c, k)) 0)
      ⊢ (|={Set.univ}=> bigSep Finset.univ fun k : Fin 7 => iprop(∃ κ : ℕ, cellInv ER (xchg m) κ (kcell (c, k))) : sProp 𝕄) from by
        rw [← bigSep_sep']
        exact (bigSep_mono fun k _ => (Rounds.body_intro ER (xchg m) (kcell (c, k))).trans inv_alloc).trans (bigSep_fupd _ _)) $$ [Hv Hst] with Hinv
  · isplitl [Hv] <;> iassumption
  imodintro
  isplitl [Hinv]; · iexact Hinv
  isplitl [Hre]; · iexact Hre
  isplitl [Hat]; · iexact Hat
  isplitl [Htok] <;> iassumption

/-- What everybody knows: all invariants, and that every cell is at round 0. -/
def records (K : Dev nD × Fin 7 → ℕ) : sProp 𝕄 :=
  iprop((bigSep Finset.univ fun ck : Dev nD × Fin 7 => cellInv ER (xchg m) (K ck) (kcell ck))
    ∗ bigSep Finset.univ fun ck : Dev nD × Fin 7 => reached ER (kcell ck) 0)

/-- Records are kept. -/
instance records_persistent (K : Dev nD × Fin 7 → ℕ) : BI.Persistent (records m K) := by unfold records; infer_instance

/-- From the records, the invariant of any cell, -/
theorem records_inv (K : Dev nD × Fin 7 → ℕ) (c : Dev nD) (k : Fin 7) {g : GSem nD τ sig} (h : kcell (c, k) = g) :
    records m K ⊢ (cellInv ER (xchg m) (K (c, k)) g : sProp 𝕄) := by
  subst h
  unfold records
  iintro ⟨H, -⟩
  iapply (show (bigSep Finset.univ fun ck : Dev nD × Fin 7 => (cellInv ER (xchg m) (K ck) (kcell ck) : sProp 𝕄)) ⊢ cellInv ER (xchg m) (K (c, k)) (kcell (c, k)) from bigSep_elim (Finset.mem_univ (c, k)))
  iexact H

/-- that any cell is at round 0, -/
theorem records_reached (K : Dev nD × Fin 7 → ℕ) (c : Dev nD) (k : Fin 7) {g : GSem nD τ sig} (h : kcell (c, k) = g) :
    records m K ⊢ (reached ER g 0 : sProp 𝕄) := by
  subst h
  unfold records
  iintro ⟨-, H⟩
  iapply (show (bigSep Finset.univ fun ck : Dev nD × Fin 7 => (reached ER (kcell ck) 0 : sProp 𝕄)) ⊢ reached ER (kcell (c, k)) 0 from bigSep_elim (Finset.mem_univ (c, k)))
  iexact H

/-- and all that a device needs to know for a round. -/
theorem records_known (K : Dev nD × Fin 7 → ℕ) (j : Fin 3) (c : Dev nD) : records m K ⊢ (known m K j c : sProp 𝕄) := by
  unfold known
  iintro #H
  isplitr; · iapply (records_inv m K c (sendIx j) (kcell_send j c)); iexact H
  isplitr; · iapply (records_inv m K c (recvIx j) (kcell_recv j c)); iexact H
  isplitr; · iapply (records_inv m K (mate j c) barIx (kcell_bar (mate j c))); iexact H
  isplitr; · iapply (records_inv m K (mate j c) (recvIx j) (kcell_recv j (mate j c))); iexact H
  isplitr; · iapply (records_reached m K (mate j c) barIx (kcell_bar (mate j c))); iexact H
  isplitr; · iapply (records_reached m K c (sendIx j) (kcell_send j c)); iexact H
  iapply (records_reached m K c (recvIx j) (kcell_recv j c)); iexact H

/-- What stays with one device. -/
def own1 (c : Dev nD) : sProp 𝕄 := iprop(positions c ∗ payToks c ∗ localSems c)

/-- The records and what stays with a device are what it starts with. -/
theorem ghost_intro (K : Dev nD × Fin 7 → ℕ) (c : Dev nD) : iprop(records m K ∗ own1 c) ⊢ (G' m c : sProp 𝕄) := by
  unfold own1 positions payToks G' ghost
  rw [seven, three, three, three]
  iintro ⟨#HR, ⟨H0, H1, H2, H3, H4, H5, H6⟩, ⟨⟨Hb0, Hb1, Hb2⟩, ⟨Hs0, Hs1, Hs2⟩, Hr0, Hr1, Hr2⟩, Hl⟩
  isplitr [Hl]
  · iexists K
    isplitr
    · isplitr; · iapply (records_inv m K c barIx (kcell_bar c)); iexact HR
      isplitr; · iapply (records_known m K 0 c); iexact HR
      isplitr; · iapply (records_known m K 1 c); iexact HR
      iapply (records_known m K 2 c); iexact HR
    isplitl [H0]; · iexact H0
    isplitl [H1 H2 H3]
    · isplitl [H1]; · iexact H1
      isplitl [H2] <;> [iexact H2; iexact H3]
    isplitl [H4 H5 H6]
    · isplitl [H4]; · iexact H4
      isplitl [H5] <;> [iexact H5; iexact H6]
    isplitl [Hb0 Hb1 Hb2]
    · isplitl [Hb0]; · iexact Hb0
      isplitl [Hb1] <;> [iexact Hb1; iexact Hb2]
    isplitl [Hs0 Hr0]; · isplitl [Hs0] <;> [iexact Hs0; iexact Hr0]
    isplitl [Hs1 Hr1]; · isplitl [Hs1] <;> [iexact Hs1; iexact Hr1]
    isplitl [Hs2] <;> [iexact Hs2; iexact Hr2]
  · iexact Hl

omit [FloatOps F] in
/-- Something every device has for each round may be had by its mates of the rounds instead. -/
theorem to_mates (f : Fin 3 → Dev nD → sProp 𝕄) :
    (bigSep Finset.univ fun c : Dev nD => bigSep Finset.univ fun j : Fin 3 => f j c)
      = bigSep Finset.univ fun c : Dev nD => bigSep Finset.univ fun j : Fin 3 => f j (mate j c) := by
  simp only [three, bigSep_sep']
  rw [bigSep_univ_equiv (pairing 0) (f 0), bigSep_univ_equiv (pairing 1) (f 1), bigSep_univ_equiv (pairing 2) (f 2)]
  rfl

omit [FloatOps F] in
/-- The tokens minted for the devices' own cells are those that the devices pay. -/
theorem toks_dealt : (bigSep Finset.univ fun c : Dev nD => (toks c : sProp 𝕄)) = bigSep Finset.univ fun c : Dev nD => payToks c := by
  unfold toks payToks
  simp only [bigSep_sep' (Finset.univ : Finset (Dev nD))]
  rw [to_mates fun j c => dutyTok ER (barCell c) 0 j, to_mates fun j c => dutyTok ER (recvCell j c) 0 0]

/-- When all cells have their invariants, every device gets what it starts with. -/
theorem regroup :
    (bigSep Finset.univ fun c : Dev nD => iprop((bigSep Finset.univ fun k : Fin 7 => iprop(∃ κ : ℕ, cellInv ER (xchg m) κ (kcell (c, k))))
          ∗ (bigSep Finset.univ fun k : Fin 7 => reached ER (kcell (c, k)) 0) ∗ positions c ∗ toks c ∗ localSems c) : sProp 𝕄)
      ⊢ bigSep Finset.univ (G' m) := by
  simp only [bigSep_sep' (Finset.univ : Finset (Dev nD))]
  rw [← bigSep_univ_prod (fun ck : Dev nD × Fin 7 => iprop(∃ κ : ℕ, cellInv ER (xchg m) κ (kcell ck))),
    ← bigSep_univ_prod (fun ck : Dev nD × Fin 7 => (reached ER (kcell ck) 0 : sProp 𝕄)), toks_dealt]
  iintro ⟨HI, #HR, Hat, Htok, Hl⟩
  ihave HK := (BI.bigSep_exists_pi Finset.univ (fun (ck : Dev nD × Fin 7) (κ : ℕ) => (cellInv ER (xchg m) κ (kcell ck) : sProp 𝕄))) $$ HI
  icases HK with ⟨%K, #HI⟩
  iapply (bigSep_with_persistent (R := records m K) (Φ := own1) fun c _ => ghost_intro m K c)
  unfold own1
  simp only [bigSep_sep' (Finset.univ : Finset (Dev nD))]
  isplitr
  · unfold records; isplitl; · iexact HI
    iexact HR
  isplitl [Hat]; · iexact Hat
  isplitl [Htok] <;> iassumption

/-- The same from the counters at zero. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A debt to the barrier cell of a mate counts for exactly that mate; -/
theorem tally_bar (j : Fin 3) (d c : Dev nD) (k : ℕ) : (tallyAt (barCell (mate j d)) () k : CellTallies nD τ sig Unit) (barCell c) () = if d = mate j c then k else 0 := by
  rw [tallyAt_apply]
  refine if_congr ⟨fun h => ?_, fun h => ?_⟩ rfl rfl
  · rw [device_eq h.1, mate_mate]
  · rw [h, mate_mate]; exact ⟨rfl, rfl⟩

/-- so does a debt to its receive cell of a round; -/
theorem tally_recv (i j : Fin 3) (d c : Dev nD) (k : ℕ) :
    (tallyAt (recvCell i (mate i d)) () k : CellTallies nD τ sig Unit) (recvCell j c) () = if j = i ∧ d = mate i c then k else 0 := by
  rw [tallyAt_apply]
  refine if_congr ⟨fun h => ⟨?_, ?_⟩, fun h => ?_⟩ rfl rfl
  · have e : (SemLoc.dma (recvS j) : SemLoc sig) = .dma (recvS i) := congrArg Prod.snd h.1
    exact (by decide : ∀ i j : Fin 3, (SemLoc.dma (recvS j) : SemLoc sig) = .dma (recvS i) → j = i) i j e
  · rw [device_eq h.1, mate_mate]
  · rw [h.1, h.2, mate_mate]; exact ⟨rfl, rfl⟩

/-- and neither counts for a cell of the other kind. -/
theorem tally_recv_bar (i : Fin 3) (d c : Dev nD) (k : ℕ) : (tallyAt (recvCell i d) () k : CellTallies nD τ sig Unit) (barCell c) () = 0 := by
  rw [tallyAt_apply]; exact if_neg fun h => absurd (congrArg Prod.snd h.1) (fun h => by cases h)
theorem tally_bar_recv (i : Fin 3) (d c : Dev nD) (k : ℕ) : (tallyAt (barCell d) () k : CellTallies nD τ sig Unit) (recvCell i c) () = 0 := by
  rw [tallyAt_apply]; exact if_neg fun h => absurd (congrArg Prod.snd h.1) (fun h => by cases h)

/-- What device `d` owes the barrier cell of `c`: one for every round in which they are mates. -/
theorem owed_bar (d c : Dev nD) :
    O₀ d (barCell c) () = (if d = mate 2 c then 1 else 0) + (if d = mate 1 c then 1 else 0) + (if d = mate 0 c then 1 else 0) := by
  unfold O₀ B₁ B₂ E₀ E₁ E₂
  simp only [Pi.add_apply, Finsupp.add_apply, tally_bar, tally_recv_bar, Nat.zero_add]

/-- What it owes a receive cell of `c`: a copy, where they are mates of that round. -/
theorem owed_recv (j : Fin 3) (d c : Dev nD) : O₀ d (recvCell j c) () = if d = mate j c then N else 0 := by
  unfold O₀ B₁ B₂ E₀ E₁ E₂
  simp only [Pi.add_apply, Finsupp.add_apply, tally_recv, tally_bar_recv, Nat.add_zero]
  fin_cases j <;> simp

/-- All devices together owe a barrier cell three, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  simp only [owed_bar, Finset.sum_add_distrib, Finset.sum_ite_eq', Finset.mem_univ, if_true]

/-- and a receive cell one copy. -/
theorem launch_recv (j : Fin 3) (c : Dev nD) :
    tallyOn (recvCell j c) (launchCredit (Pipeline.owing O₀) 0 (recvCell j c)) = (tallyAt (recvCell j c) () N : CellTallies nD τ sig Unit) := by
  unfold tallyAt; refine congrArg _ (Finsupp.ext fun u => ?_); cases u
  rw [Pipeline.launchCredit_owing, Finsupp.single_eq_same]
  simp only [owed_recv, Finset.sum_ite_eq', Finset.mem_univ, if_true]

omit [FloatOps F] in
/-- So the launch gives a device the credits of all that it waits for. -/
theorem creds (c : Dev nD) : (Pipeline.launchCred O₀ c : sProp 𝕄) ⊢ credits c := by
  unfold Pipeline.launchCred credits
  rw [← launch_bar, ← launch_recv, ← launch_recv, ← launch_recv]
  have h (Φ : SemLoc sig → sProp 𝕄) : bigSep Finset.univ Φ ⊢ iprop(Φ (.reg barS) ∗ Φ (.dma (recvS 0)) ∗ Φ (.dma (recvS 1)) ∗ Φ (.dma (recvS 2))) := by
    have hl : bigSep [SemLoc.reg barS, .dma (recvS 0), .dma (recvS 1), .dma (recvS 2)].toFinset Φ
        = iprop(Φ (.reg barS) ∗ Φ (.dma (recvS 0)) ∗ Φ (.dma (recvS 1)) ∗ Φ (.dma (recvS 2))) := bigSep_eq_bigSepL _ (by decide) Φ
    rw [← hl]
    exact bigSep_subset (Finset.subset_univ _)
  exact h _

/-! ## The pipeline's data -/

/-- `Wp` as device `c` has it staged. -/
def staged (c : Dev nD) : Vec F S64x128 .f32 := (win0_0.blk (0 : Fin 1)).view.read (Elt F) (m ((c : Thread nD τ).loc main_arg1))

/-- It is `Wp`: the window is the whole of it. -/
theorem staged_eq (c : Dev nD) : staged m c = m ((c : Thread nD τ).loc main_arg1) :=
  Memref.read_access_unit_zero (Elt F) main_arg1 (funext fun a => by fin_cases a <;> rfl) _ _

/-- What a device's body starts from beside its scratch buffers: its part of the exchange, its credits, the levels, its block of
    `x` and its block of the result. -/
def start (c : Dev nD) : sProp 𝕄 :=
  iprop(G' m c ∗ credits c ∗ levAts L lv ∗ xBlock m c
    ∗ ∃ f : Buf (Elt F) ((c : Thread nD τ).loc main_v1), ((c : Thread nD τ).loc main_v1) ↦{fullShare} f)

/-- What a device has before its body, -/
def Φ₀ (c : Dev nD) : sProp 𝕄 := iprop(start m c ∗ scratch c)
/-- and after it. -/
def Φ₁ (c : Dev nD) : sProp 𝕄 := iprop(xBlock m c ∗ oBlock m c (staged m c) ∗ scratch c ∗ localSems c ∗ meetSems c)

/-- The launch, as the pipeline wants it described: one grid step, one staged input, which is `Wp`. -/
def dats (_ : Fin 1) (c : Dev nD) : Dat τ (Elt F) Unit ℕ UU ℕ cfg0 c where
  A w := m ((cfg0.win w).arr.view.loc (c : Thread nD τ))
  after w _ := match w with
    | ⟨0, _⟩ => staged m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The windows are held whole. -/
theorem share_eq (c : Dev nD) (w : Fin cfg0.W) : (dats m 0 c).share w = fullShare := by unfold Dat.share; split <;> rfl

omit [FloatOps F] in
/-- A whole buffer held is its points. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staging buffer of `Wp`. -/
abbrev stg (c : Dev nD) (X : cc0_stg0_0.ty.Contents (Elt F)) : sProp 𝕄 :=
  iprop(∃ f : Buf (Elt F) ((c : Thread nD τ).loc cc0_stg0_0), ⌜f = X⌝ ∗ (((c : Thread nD τ).loc cc0_stg0_0) ↦{fullShare} f))

/-- Before the step it holds `Wp`. -/
theorem before_eq (c : Dev nD) (d) : (dats m 0 c).before (0 : Fin 1) t0_0 d = staged m c := by
  unfold Dat.before
  rw [if_pos (fetch0_0 t0_0)]
  rfl

/-- The body, from what a device has before to what it has after. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show iprop(Φ₀ m c ∗ (dats m 0 c).owesAt () t0_0.castSucc ∗ (∃ d, stg c ((dats m 0 c).before (0 : Fin 1) t0_0 d)))
    ⊢ wp frame (wpE (defs₀ (F := F)) 𝒱₀ c none) Set.univ (bodyAt0 t0_0)
      (fun _ => iprop(Φ₁ m c ∗ (dats m 0 c).owesAt () t0_0.succ ∗ stg c (staged m c)))
  unfold Φ₀ start G'
  iintro ⟨⟨⟨⟨⟨%K, Hg⟩, Hl⟩, Hc, Hlev, Hx, Ho⟩, Hs⟩, HO, ⟨%d, %g, %hg, Hw⟩⟩
  rw [before_eq] at hg
  subst hg
  unfold Dat.owesAt Pipeline.owesWithin
  icases HO with ⟨%W, %hW, HO⟩
  rw [show (dats m 0 c).owed t0_0.castSucc = O₀ c from rfl, show (dats m 0 c).owed t0_0.succ = 0 from rfl]
  iapply (body_runs m K c (staged m c) _)
  isplitl [Hg]; · iexact Hg
  isplitl [Hlev]; · iexact Hlev
  isplitl [Hc]; · iexact Hc
  isplitl [Hl]; · iexact Hl
  isplitl [Hx]; · iexact Hx
  isplitl [Ho]; · iexact Ho
  isplitl [Hs]; · iexact Hs
  isplitl [HO]; · unfold owing; iexists W; iexact HO
  isplitl [Hw]; · unfold wHeld; iexact Hw
  unfold Φ₁ owing wHeld
  iintro ⟨Hx, Ho, Hs, Hl, Hm, ⟨%W', HO⟩, Hw⟩
  isplitl [Hx Ho Hs Hl Hm]
  · isplitl [Hx]; · iexact Hx
    isplitl [Ho]; · iexact Ho
    isplitl [Hs]; · iexact Hs
    isplitl [Hl] <;> iassumption
  isplitl [HO]
  · iexists W'
    isplitr; · ipureintro; exact fun _ _ => Or.inl trivial
    iexact HO
  iexists _
  isplitr; · (ipureintro; rfl)
  iexact Hw

/-! ## The run -/

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ (emp : sProp 𝕄)) := by
  rw [Pipeline.unscopedRestP_none]
  rw [show (Pipeline.unscopedRest cfg0.spec c (fun b => m ((c : Thread nD τ).loc b)) : sProp 𝕄) = _ from unscopedRest0_eq c _]
  unfold start xBlock
  iintro ⟨⟨Hx, Ho⟩, Hlev, Hcr, -, HG⟩
  ihave Hc := (creds (F := F) c) $$ Hcr
  imodintro
  isplitl
  · isplitl [HG]; · iexact HG
    isplitl [Hc]; · iexact Hc
    isplitl [Hlev]; · iexact Hlev
    isplitl [Hx]; · iexact Hx
    iexists _; iexact Ho
  · iempintro

/-- With the buffers it is the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  rw [show (Pipeline.scopedRest cfg0.spec c : sProp 𝕄) = scratch c from scopedRest0_eq c]
  unfold Φ₀
  iintro ⟨Hs, -, Hr⟩
  isplitl [Hs] <;> iassumption

/-- What is left for the final reading: the barrier's counter, the input block and the result block. -/
def left (c : Dev nD) : sProp 𝕄 := iprop(unscopedSems0 c ∗ xBlock m c ∗ oBlock m c (staged m c))

/-- The state after the body gives back the buffers and the counters, at zero. -/
theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl]
  rw [show (Pipeline.scopedRest cfg0.spec c : sProp 𝕄) = scratch c from scopedRest0_eq c]
  unfold left
  rw [ownSems0_eq, unscopedSems0_eq]
  unfold Φ₁ meetSems
  iintro ⟨Hx, Ho, Hs, Hl, Hsnd, Hrcv, Hb⟩
  isplitl [Hb Hx Ho]
  · isplitl [Hb]; · iexact Hb
    isplitl [Hx] <;> iassumption
  isplitl [Hl Hsnd Hrcv]
  · isplitl [Hl]; · iexact Hl
    isplitl [Hsnd] <;> iassumption
  iexact Hs

/-- The pipeline's own waits are at levels below all that is owed. -/
theorem waits (c : Dev nD) : (levAts L lv : sProp 𝕄) ⊢ Pipeline.cellsWaits cfgs (dats m) () 0 c :=
  Pipeline.cellsWaits_intro cfgs (dats m) () 0 c fun w s t => by
    have hs : level (.dma ((cfg0.win w).sem s)) ≤ 0 := by fin_cases w; fin_cases s; decide
    rcases t with ⟨_ | _, ht⟩
    · exact mayWait_of (above_O₀ c) c _ hs
    · exact mayWait_of (Above.zero 0) c _ hs

/-- What the final memory is on device `c`: the counters outside the kernel at zero, the input block as it was, the result block
    reading as computed. -/
def QY (c : Dev nD) (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0)
    ∧ ∀ k : Fin 8, (oC k).view.read (Elt F) (s.mem ((c : Thread nD τ).loc main_v1)) = flat (outPage m c (staged m c) k)

/-- What a device has left at the end says what the memory holds. -/
theorem read_left (c : Dev nD) (s' : Phys nD τ sig (Elt F)) : iprop(left m c ∗ emp ∗ SI s') ⊢ |={Set.univ}=> iprop(⌜QY m c s'.mem⌝ ∗ (SI s' : sProp 𝕄)) := by
  unfold left xBlock oBlock
  iintro ⟨⟨Hu, Hx, ⟨%f, Ho, %hf⟩⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr [HSI]
  · ipureintro
    refine ⟨hu, Buf.eq_of_forall_mem_univ hx, ?_⟩
    rw [Buf.eq_of_forall_mem_univ ho]
    exact hf
  · iexact HSI

/-- From any memory with zero counters, every weakly fair execution of the eight devices ends, with every counter at zero, both
    inputs unchanged on every device, and every chunk of every device's result reading what its body computes. -/
theorem run_main : θ_run defs (onTc (τ := τ) (main (F := F))) (⟨m, fun _ => 0, ρ⟩ : MemSt nD τ sig (Elt F)) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ ∀ k : Fin 8, (oC k).view.read (Elt F) (r.2.mem ((c : Thread nD τ).loc main_v1)) = flat (outPage m c (staged m c) k))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_exchange m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := QY m) (hY := read_left m)
    (hQ := fun s h hs => ⟨fun c => ⟨(h c).2.2.2.1, ((h c).1 (0 : Fin 1)).trans ((dats (F := F) m 0 c).arrAt_in (0 : Fin 1) rfl _), (h c).2.2.2.2⟩,
      sem_eq_zero hs fun c => (h c).2.2.1⟩)

end Cert.KernelIdeal.Exchange

end
-- ==== Proof.Middle.lean ====
/-
  Reductions of the two middle axes of an array of four, over the extended reals, as double sums.
-/
module

public import Idealize.ShloMosaic.Lib.Pointwise

@[expose] public section

noncomputable section

namespace Cert.Middle

open Idealize.ShloMosaic
open scoped BigOperators

variable {n0 n1 n2 n3 : Nat}

/-- The indices that drop to `(b, ch)` when axes 1 and 2 are reduced are those with `b` in front and `ch` behind. -/
theorem drops_iff (h : (⟨4, ![n0, n1, n2, n3]⟩ : Shape).ReducesTo [1, 2] ⟨2, ![n0, n3]⟩) (b : Fin n0) (ch : Fin n3)
    (i : (⟨4, ![n0, n1, n2, n3]⟩ : Shape).Idx) : h.drop i = ix2 b ch ↔ ∃ p : Fin n1 × Fin n2, ix4 b p.1 p.2 ch = i := by
  constructor
  · intro e
    have e0 : i 0 = b := Fin.ext (congrArg Fin.val (congrFun e 0))
    have e1 : i 3 = ch := Fin.ext (congrArg Fin.val (congrFun e 1))
    exact ⟨(i 1, i 2), by subst e0 e1; exact (ValueIdx.eq_ix4 i).symm⟩
  · rintro ⟨p, rfl⟩
    funext a
    apply Fin.ext
    match a with
    | ⟨0, _⟩ => rfl
    | ⟨1, _⟩ => rfl

/-- The sum over them is the double sum over the two axes. -/
theorem sum_dropping (h : (⟨4, ![n0, n1, n2, n3]⟩ : Shape).ReducesTo [1, 2] ⟨2, ![n0, n3]⟩) (b : Fin n0) (ch : Fin n3)
    (v : (⟨4, ![n0, n1, n2, n3]⟩ : Shape).Idx → EReal) :
    ∑ i ∈ Finset.univ.filter (fun i => h.drop i = ix2 b ch), v i = ∑ r : Fin n1, ∑ l : Fin n2, v (ix4 b r l ch) := by
  rw [Finset.sum_filter_eq_sum_of_fiber _ (fun p : Fin n1 × Fin n2 => (ix4 b p.1 p.2 ch : (⟨4, ![n0, n1, n2, n3]⟩ : Shape).Idx))
    (fun _ _ e => Prod.ext (congrFun e 1) (congrFun e 2)) (drops_iff h b ch) v, Fintype.sum_prod_type]

/-- The kernel's reduction of the two middle axes, at an index. -/
theorem reduce_middle (h : (⟨4, ![n0, n1, n2, n3]⟩ : Shape).Reduces [1, 2] ⟨2, ![n0, n3]⟩) (b : Fin n0) (ch : Fin n3)
    (v : (⟨4, ![n0, n1, n2, n3]⟩ : Shape).Idx → EReal) :
    Ideal.reduceAdd h v (ix2 b ch) = ∑ r : Fin n1, ∑ l : Fin n2, v (ix4 b r l ch) :=
  sum_dropping h.reducesTo b ch v

/-- The host's. -/
theorem host_reduce_middle (h : (⟨4, ![n0, n1, n2, n3]⟩ : Shape).ReducesTo [1, 2] ⟨2, ![n0, n3]⟩) (b : Fin n0) (ch : Fin n3)
    (v : (⟨4, ![n0, n1, n2, n3]⟩ : Shape).Idx → EReal) (z : EReal) :
    Ideal.hostReduceAdd h v z (ix2 b ch) = z + ∑ r : Fin n1, ∑ l : Fin n2, v (ix4 b r l ch) :=
  congrArg (z + ·) (sum_dropping h b ch v)

end Cert.Middle

end
-- ==== Proof.MomentsKernelIdeal.lean ====
/-
  The statistics that the exchange leaves on every device, over the extended reals: after three rounds each device holds, for
  every sample and channel, the sum and the sum of squares over all 1024 rows, whichever device's block a row lies in.
-/
module

public import proofs.«01_k».proof.Proof.ProtocolKernelIdeal
public import proofs.«01_k».proof.Proof.Middle

@[expose] public section

noncomputable section

namespace Cert.KernelIdeal.Exchange

open Idealize.ShloMosaic Idealize.SL.Sem
open Cert.KernelIdeal Cert.KernelIdeal.Gen Cert.Middle
open scoped BigOperators

/-! ## A chunk's statistics -/

/-- Row `16 k + r` of a block. -/
def row (k : Fin 8) (r : Fin 16) : Fin 128 := ⟨16 * k.val + r.val, by omega⟩

variable (m : (ℓ : Loc nD τ sig) → Buf (Elt Ideal) ℓ)

/-- Device `c`'s block of `x`, by its coordinates. -/
def block (c : Dev nD) (b : Fin 2) (n : Fin 128) (l : Fin 128) (ch : Fin 64) : EReal :=
  (m (c.tc.loc main_arg0) : S2x128x128x64.Idx → EReal) (ix4 b n l ch)

/-- Chunk `k` is the rows `16 k` to `16 k + 15`. -/
theorem chunk_at (c : Dev nD) (k : Fin 8) (b : Fin 2) (r : Fin 16) (l : Fin 128) (ch : Fin 64) :
    chunk m c k (ix4 b r l ch) = block m c b (row k r) l ch := by
  have e : ∀ j : S2x16x128x64.Idx, chunk m c k j = (m (c.tc.loc main_arg0) : S2x128x128x64.Idx → EReal) ((chunkRect k).emb j) := fun j => rfl
  rw [e]
  refine congrArg (m (c.tc.loc main_arg0) : S2x128x128x64.Idx → EReal) (funext fun a => Fin.ext ?_)
  fin_cases a
  · exact (Nat.zero_add _).trans (Nat.one_mul _)
  · simp [row]
  · simp
  · simp

/-- Row `b` of the statistics is the sum of sample `b`, row `2 + b` its sum of squares. -/
def sums (b : Fin 2) : Fin 4 := ⟨b.val, by omega⟩
def squares (b : Fin 2) : Fin 4 := ⟨2 + b.val, by omega⟩

/-- A chunk's sums; -/
theorem parts_sums (v : Vec Ideal S2x16x128x64 .f32) (b : Fin 2) (ch : Fin 64) :
    k0_pay1 v (ix2 (sums b) ch) = ∑ r : Fin 16, ∑ l : Fin 128, v (ix4 b r l ch) := by
  unfold k0_pay1 sums
  pointwise
  exact reduce_middle _ b ch v

/-- and its sums of squares. -/
theorem parts_squares (v : Vec Ideal S2x16x128x64 .f32) (b : Fin 2) (ch : Fin 64) :
    k0_pay1 v (ix2 (squares b) ch) = ∑ r : Fin 16, ∑ l : Fin 128, v (ix4 b r l ch) * v (ix4 b r l ch) := by
  unfold k0_pay1 squares
  pointwise
  exact reduce_middle reduces_S2x16x128x64_S2x64 b ch fun i => v i * v i

/-- A device's own statistics are the sum of its eight chunks'. -/
theorem own_at (c : Dev nD) (i : S4x64.Idx) : own m c i = ∑ k : Fin 8, k0_pay1 (chunk m c k) i := by
  rw [Fin.sum_univ_eight]
  rfl

/-- What arrives is added element by element. -/
theorem added (v w : FVec Ideal S4x64 .f32) (i : S4x64.Idx) : k0_pay9 v (k0_pay8 w) i = v i + w i := by
  unfold k0_pay9 k0_pay8
  pointwise

/-- The devices whose statistics reach device `c`: itself, then by rounds. -/
def reaching (c : Dev nD) : Fin 8 → Dev nD :=
  ![c, mate 0 c, mate 1 c, mate 0 (mate 1 c), mate 2 c, mate 0 (mate 2 c), mate 1 (mate 2 c), mate 0 (mate 1 (mate 2 c))]

/-- They are all eight, each once. -/
theorem reaching_bijective (c : Dev nD) : Function.Bijective (reaching c) := by
  revert c
  decide +kernel

/-- After the three rounds every device holds the sum of all eight devices' own statistics. -/
theorem after3_at (c : Dev nD) (i : S4x64.Idx) : after3 m c i = ∑ d : Dev nD, own m d i := by
  have h1 : ∀ c, after1 m c i = own m c i + own m (mate 0 c) i := fun c => added _ _ i
  have h2 : ∀ c, after2 m c i = after1 m c i + after1 m (mate 1 c) i := fun c => added _ _ i
  have h3 : after3 m c i = after2 m c i + after2 m (mate 2 c) i := added _ _ i
  rw [h3, h2, h2, h1, h1, h1, h1, ← (reaching_bijective c).sum_comp fun d => own m d i, Fin.sum_univ_eight]
  simp only [reaching, Matrix.cons_val]
  ac_rfl

/-! ## The whole array's statistics -/

/-- Row `16 k + r` of device `c`'s block is row `128 c + 16 k + r` of the whole. -/
def wholeRow (c : Fin 8) (n : Fin 128) : Fin 1024 := ⟨128 * c.val + n.val, by omega⟩

/-- Rows are counted once each: by device, chunk and row of the chunk. -/
theorem sum_rows (f : Fin 1024 → EReal) : ∑ c : Fin 8, ∑ k : Fin 8, ∑ r : Fin 16, f (wholeRow c (row k r)) = ∑ n, f n := by
  have inner : ∀ g : Fin 128 → EReal, ∑ k : Fin 8, ∑ r : Fin 16, g (row k r) = ∑ n, g n := fun g => by
    rw [← Fintype.sum_prod_type' fun k r => g (row k r), ← (finProdFinEquiv (m := 8) (n := 16)).sum_comp g]
    exact Finset.sum_congr rfl fun p _ => congrArg g (Fin.ext (Nat.add_comm _ _))
  have outer : ∑ c : Fin 8, ∑ n : Fin 128, f (wholeRow c n) = ∑ n, f n := by
    rw [← Fintype.sum_prod_type' fun c n => f (wholeRow c n), ← (finProdFinEquiv (m := 8) (n := 128)).sum_comp f]
    exact Finset.sum_congr rfl fun p _ => congrArg f (Fin.ext (Nat.add_comm _ _))
  rw [← outer]
  exact Finset.sum_congr rfl fun c _ => inner fun n => f (wholeRow c n)

variable (X : Fin 2 → Fin 1024 → Fin 128 → Fin 64 → EReal)
variable (hX : ∀ (c : Dev nD) b n l ch, block m c b n l ch = X b (wholeRow c n) l ch)

include hX

/-- The sums that every device ends the exchange with are those of the whole array; -/
theorem after3_sums (c : Dev nD) (b : Fin 2) (ch : Fin 64) :
    after3 m c (ix2 (sums b) ch) = ∑ n : Fin 1024, ∑ l : Fin 128, X b n l ch := by
  rw [after3_at, ← sum_rows]
  refine Finset.sum_congr rfl fun d _ => ?_
  rw [own_at]
  refine Finset.sum_congr rfl fun k _ => ?_
  rw [parts_sums]
  exact Finset.sum_congr rfl fun r _ => Finset.sum_congr rfl fun l _ => by rw [chunk_at, hX]

/-- so are the sums of squares. -/
theorem after3_squares (c : Dev nD) (b : Fin 2) (ch : Fin 64) :
    after3 m c (ix2 (squares b) ch) = ∑ n : Fin 1024, ∑ l : Fin 128, X b n l ch * X b n l ch := by
  rw [after3_at, ← sum_rows]
  refine Finset.sum_congr rfl fun d _ => ?_
  rw [own_at]
  refine Finset.sum_congr rfl fun k _ => ?_
  rw [parts_squares]
  exact Finset.sum_congr rfl fun r _ => Finset.sum_congr rfl fun l _ => by rw [chunk_at, hX]

end Cert.KernelIdeal.Exchange

end
-- ==== Proof.Scalars.lean ====
/-
  The arithmetic on which the kernel and the reference agree, over the extended reals at finite inputs: the variance as mean
  square less squared mean, a product with the reciprocal root for a quotient by the root, and a product with the logistic
  function for a quotient by one plus an exponential.
-/
module

public import Idealize.ShloMosaic.Lib.Pointwise
public import Mathlib.Tactic.FieldSimp
public import Mathlib.Tactic.Ring
public import Mathlib.Tactic.Positivity

@[expose] public section

noncomputable section

namespace Cert.Scalars

open Idealize.ShloMosaic
open scoped BigOperators

/-! ## The three constants -/

/-- The number of elements of a channel, and the small number under the root. -/
def count : EReal := Ideal.ofBits .f32 0x48000000#32
def eps : EReal := Ideal.ofBits .f32 0x3727C5AC#32

/-- The count is 1024 · 128. -/
theorem count_eq : count = ((131072 : ℝ) : EReal) := by
  simp [count, Ideal.ofBits, Ideal.ieee, ← EReal.coe_mul]
  norm_num

/-- The small number is positive and finite. -/
theorem eps_eq : ∃ e : ℝ, 0 < e ∧ eps = (e : EReal) := by
  refine ⟨10995116 * (2 : ℝ) ^ (-40 : ℤ), by positivity, ?_⟩
  simp [eps, Ideal.ofBits, Ideal.ieee, ← EReal.coe_mul]

/-! ## Sums of finite numbers -/

/-- A sum of real numbers is real, -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- and so is a double sum. -/
theorem coe_sum₂ {ι κ : Type*} [Fintype ι] [Fintype κ] (f : ι → κ → ℝ) :
    ∑ i, ∑ k, (f i k : EReal) = ((∑ i, ∑ k, f i k : ℝ) : EReal) := by
  simp only [coe_sum]

/-- The mean square deviation is the mean square less the squared mean. -/
theorem deviation (f : Fin 1024 → Fin 128 → ℝ) (μ : ℝ) (hμ : μ = (∑ n, ∑ l, f n l) * (1 / 131072)) :
    (∑ n, ∑ l, (f n l - μ) * (f n l - μ)) * (1 / 131072) = (∑ n, ∑ l, f n l * f n l) * (1 / 131072) - μ * μ := by
  have h : ∀ n l, (f n l - μ) * (f n l - μ) = f n l * f n l - 2 * μ * f n l + μ * μ := fun n l => by ring
  have hs : ∑ n, ∑ l, f n l = 131072 * μ := by rw [hμ]; ring
  simp only [h, Finset.sum_add_distrib, Finset.sum_sub_distrib, ← Finset.mul_sum, hs, Finset.sum_const, Finset.card_univ,
    Fintype.card_fin, nsmul_eq_mul]
  push_cast
  ring

/-! ## The two normalisations -/

/-- A channel's mean, -/
def mean (f : Fin 1024 → Fin 128 → EReal) : EReal := Ideal.div (∑ n, ∑ l, f n l) count
/-- the kernel's scale: the reciprocal root of mean square less squared mean, -/
def scale (f : Fin 1024 → Fin 128 → EReal) : EReal :=
  Ideal.rsqrt (Ideal.div (∑ n, ∑ l, f n l * f n l) count - mean f * mean f + eps)
/-- and the reference's divisor: the root of the mean square deviation. -/
def spread (f : Fin 1024 → Fin 128 → EReal) : EReal :=
  Ideal.sqrt (Ideal.div (∑ n, ∑ l, (f n l - mean f) * (f n l - mean f)) count + eps)

/-- Of finite inputs the mean is finite, the divisor is a positive number and the scale is its inverse. -/
theorem spread_scale (f : Fin 1024 → Fin 128 → ℝ) : ∃ μ s : ℝ, 0 < s ∧ mean (fun n l => (f n l : EReal)) = (μ : EReal)
    ∧ spread (fun n l => (f n l : EReal)) = (s : EReal) ∧ scale (fun n l => (f n l : EReal)) = ((s⁻¹ : ℝ) : EReal) := by
  obtain ⟨e, he, hE⟩ := eps_eq
  have hN : (131072 : ℝ) ≠ 0 := by norm_num
  have hmean : mean (fun n l => (f n l : EReal)) = (((∑ n, ∑ l, f n l) * (1 / 131072) : ℝ) : EReal) := by
    rw [mean, count_eq, coe_sum₂, Ideal.div_coe hN, ← EReal.coe_mul]
  obtain ⟨μ, hμ⟩ : ∃ μ, μ = (∑ n, ∑ l, f n l) * (1 / 131072) := ⟨_, rfl⟩
  rw [← hμ] at hmean
  have hdev := deviation f μ hμ
  obtain ⟨v, hv⟩ : ∃ v, v = (∑ n, ∑ l, (f n l - μ) * (f n l - μ)) * (1 / 131072) := ⟨_, rfl⟩
  have hpos : 0 < v + e := by
    have : 0 ≤ v := hv ▸ mul_nonneg (Finset.sum_nonneg fun n _ => Finset.sum_nonneg fun l _ => mul_self_nonneg _) (by norm_num)
    linarith
  refine ⟨μ, Real.sqrt (v + e), Real.sqrt_pos.2 hpos, hmean, ?_, ?_⟩
  · rw [spread, hmean, hE, count_eq]
    simp only [← EReal.coe_sub, ← EReal.coe_mul, coe_sum₂]
    rw [Ideal.div_coe hN, ← EReal.coe_mul, ← EReal.coe_add, ← hv, Ideal.sqrt_coe, if_neg (not_lt.2 hpos.le)]
  · rw [scale, hmean, hE, count_eq]
    simp only [← EReal.coe_mul, coe_sum₂]
    rw [Ideal.div_coe hN, ← EReal.coe_mul, ← EReal.coe_sub, ← EReal.coe_add, ← hdev, ← hv, Ideal.rsqrt_coe,
      if_neg (not_lt.2 hpos.le), if_neg hpos.ne']

/-- The kernel's activation of a normalised value: the value times its logistic function, -/
def activated (h : EReal) : EReal := h * Ideal.logistic h
/-- and the reference's: the value over one plus the exponential of its negative. -/
def quotient (h : EReal) : EReal := Ideal.div h (1 + Ideal.exp (-h))

/-- They are one function on finite values. -/
theorem activated_eq (h : ℝ) : activated (h : EReal) = quotient (h : EReal) := by
  have hp : (1 + Real.exp (-h) : ℝ) ≠ 0 := by positivity
  rw [activated, quotient, Ideal.logistic_coe, ← EReal.coe_neg, Ideal.exp_coe, ← EReal.coe_one, ← EReal.coe_add, Ideal.div_coe hp,
    one_div]

/-- So the two give one activation of every finite element. -/
theorem activation (f : Fin 1024 → Fin 128 → EReal) (hf : ∀ n l, ∃ r : ℝ, f n l = (r : EReal)) (n : Fin 1024) (l : Fin 128) :
    activated ((f n l - mean f) * scale f) = quotient (Ideal.div (f n l - mean f) (spread f)) := by
  choose g hg using hf
  obtain rfl : f = fun n l => (g n l : EReal) := funext fun n => funext fun l => hg n l
  obtain ⟨μ, s, hs, hμ, hspread, hscale⟩ := spread_scale g
  rw [hμ, hspread, hscale, Ideal.div_coe hs.ne', ← EReal.coe_sub, ← EReal.coe_mul, ← EReal.coe_mul, one_div, activated_eq]

end Cert.Scalars

end
-- ==== Proof.PageKernelIdeal.lean ====
/-
  What the kernel writes, over the extended reals, element by element: the product of the activated, normalised row with `Wp`,
  the mean and the scale being those of the whole array.
-/
module

public import proofs.«01_k».proof.Proof.MomentsKernelIdeal
public import proofs.«01_k».proof.Proof.OutKernelIdeal
public import proofs.«01_k».proof.Proof.PiecesKernelIdeal
public import proofs.«01_k».proof.Proof.Scalars

@[expose] public section

noncomputable section

namespace Cert.KernelIdeal.Exchange

open Idealize.ShloMosaic Idealize.SL.Sem
open Cert.KernelIdeal Cert.KernelIdeal.Gen
open scoped BigOperators

variable (m : (ℓ : Loc nD τ sig) → Buf (Elt Ideal) ℓ)
variable (X : Fin 2 → Fin 1024 → Fin 128 → Fin 64 → EReal)

/-- One channel of one sample. -/
def channel (b : Fin 2) (ch : Fin 64) (n : Fin 1024) (l : Fin 128) : EReal := X b n l ch

/-- An element of the result, as the kernel computes it. -/
def result (W : S64x128.Idx → EReal) (b : Fin 2) (n : Fin 1024) (l : Fin 128) (o : Fin 128) : EReal :=
  ∑ ch : Fin 64, Scalars.activated ((X b n l ch - Scalars.mean (channel X b ch)) * Scalars.scale (channel X b ch)) * W (ix2 ch o)

/-- The mean that the kernel takes off the statistics, -/
theorem mean_read (v : FVec Ideal S4x64 .f32) (b : Fin 2) (ch : Fin 64) :
    k0_pay15 v (ix4 b 0 0 ch) = Ideal.div (v (ix2 (sums b) ch)) Scalars.count := by
  unfold k0_pay15 k0_pay14 sums Scalars.count
  pointwise

/-- and its scale. -/
theorem scale_read (v : FVec Ideal S4x64 .f32) (b : Fin 2) (ch : Fin 64) :
    k0_pay16 v (ix4 b 0 0 ch) = Ideal.rsqrt (Ideal.div (v (ix2 (squares b) ch)) Scalars.count
      - Ideal.div (v (ix2 (sums b) ch)) Scalars.count * Ideal.div (v (ix2 (sums b) ch)) Scalars.count + Scalars.eps) := by
  unfold k0_pay16 k0_pay14 sums squares Scalars.count Scalars.eps
  pointwise

/-- A page at an index, off any statistics. -/
theorem page_read (a s : FVec Ideal S2x1x1x64 .f32) (g : Vec Ideal S64x128 .f32) (v : Vec Ideal S2x16x128x64 .f32)
    (b : Fin 2) (r : Fin 16) (l : Fin 128) (o : Fin 128) :
    flat (k0_pay20 a s (k0_pay17 g) v) (ix4 b r l o)
      = ∑ ch : Fin 64, Scalars.activated ((v (ix4 b r l ch) - a (ix4 b 0 0 ch)) * s (ix4 b 0 0 ch)) * g (ix2 ch o) := by
  unfold flat k0_pay20 k0_pay17 Scalars.activated
  pointwise

variable (hX : ∀ (c : Dev nD) b n l ch, block m c b n l ch = X b (wholeRow c n) l ch)

include hX

/-- The page of chunk `k` holds rows `128 c + 16 k` to `128 c + 16 k + 15` of the result. -/
theorem page_at (c : Dev nD) (g : Vec Ideal S64x128 .f32) (k : Fin 8) (b : Fin 2) (r : Fin 16) (l : Fin 128) (o : Fin 128) :
    flat (outPage m c g k) (ix4 b r l o) = result X g b (wholeRow c (row k r)) l o := by
  unfold outPage
  rw [page_read]
  refine Finset.sum_congr rfl fun ch _ => ?_
  rw [mean_read, scale_read, after3_sums m X hX, after3_squares m X hX, chunk_at, hX]
  rfl

/-- An array whose eight chunks are the eight pages is device `c`'s block of the result. -/
theorem block_of_pages (c : Dev nD) (g : Vec Ideal S64x128 .f32) (f : Buf (Elt Ideal) ((c.tc : Thread nD τ).loc main_v1))
    (hf : ∀ k : Fin 8, (oC k).view.read (Elt Ideal) f = flat (outPage m c g k)) (b : Fin 2) (n : Fin 128) (l : Fin 128) (o : Fin 128) :
    (f : S2x128x128x128.Idx → EReal) (ix4 b n l o) = result X g b (wholeRow c n) l o := by
  obtain ⟨k, r, rfl⟩ : ∃ k r, n = row k r :=
    ⟨⟨n.val / 16, by omega⟩, ⟨n.val % 16, by omega⟩, Fin.ext (Nat.div_add_mod _ _).symm⟩
  rw [← page_at m X hX, ← hf k]
  have e : ∀ j : S2x16x128x128.Idx, (oC k).view.read (Elt Ideal) f j = (f : S2x128x128x128.Idx → EReal) ((outRect k).emb j) := fun j => rfl
  rw [e]
  refine congrArg (f : S2x128x128x128.Idx → EReal) (funext fun a => Fin.ext ?_)
  fin_cases a
  · exact ((Nat.zero_add _).trans (Nat.one_mul _)).symm
  · simp [row]
  · simp
  · simp

end Cert.KernelIdeal.Exchange

end
-- ==== Proof.WholeReferenceIdeal.lean ====
/-
  What the reference computes, over the extended reals, element by element.
-/
module

public import proofs.«01_k».proof.Proof.Gen.ReferenceIdeal.Run
public import proofs.«01_k».proof.Proof.Middle
public import proofs.«01_k».proof.Proof.Scalars

@[expose] public section

noncomputable section

namespace Cert.ReferenceIdeal.Value

open Idealize.ShloMosaic Idealize.SL.Sem
open Cert.ReferenceIdeal Cert.ReferenceIdeal.Gen Cert.Middle
open scoped BigOperators

/-- An element of the result, as the reference computes it. -/
def result (X : Fin 2 → Fin 1024 → Fin 128 → Fin 64 → EReal) (W : S64x128.Idx → EReal) (b : Fin 2) (n : Fin 1024) (l : Fin 128) (o : Fin 128) : EReal :=
  ∑ ch : Fin 64, Scalars.quotient (Ideal.div (X b n l ch - Scalars.mean fun n l => X b n l ch) (Scalars.spread fun n l => X b n l ch))
    * W (ix2 ch o)

variable (x : FVec Ideal S2x1024x128x64 .f32)

/-- The mean of every channel, -/
def means : FVec Ideal S2x1x1x64 .f32 :=
  Host.divf (broadcastInDim S2x1x1x64 ![0, 3] bcast_S2x64_S2x1x1x64_0_3 (Host.reduceAdd x (constant S_ .f32 0x00000000#32) reducesTo_S2x1024x128x64_S2x64_d1_2 h_S_)) (broadcastInDim S2x1x1x64 ![] bcast_S_S2x1x1x64 (constant S_ .f32 0x48000000#32))

/-- the deviations from it, -/
def deviations : FVec Ideal S2x1024x128x64 .f32 :=
  subf x (broadcastInDim S2x1024x128x64 ![0, 1, 2, 3] bcast_S2x1x1x64_S2x1024x128x64_0_1_2_3 (means x))

/-- how many elements a channel has, as the variance counts them, -/
def degrees : FVec Ideal S_ .f32 := subf (constant S_ .f32 0x48000000#32) (sitofp .f32 (constantI S_ 32 0#32))

/-- the variance of every channel, -/
def variances : FVec Ideal S2x1x1x64 .f32 :=
  select (broadcastInDim S2x1x1x64 ![] bcast_S_S2x1x1x64 (cmpf .ogt degrees (constant S_ .f32 0x00000000#32)))
    (Host.divf (broadcastInDim S2x1x1x64 ![0, 3] bcast_S2x64_S2x1x1x64_0_3 (Host.reduceAdd (mulf (deviations x) (deviations x)) (constant S_ .f32 0x00000000#32) reducesTo_S2x1024x128x64_S2x64_d1_2 h_S_)) (broadcastInDim S2x1x1x64 ![] bcast_S_S2x1x1x64 degrees))
    (broadcastInDim S2x1x1x64 ![] bcast_S_S2x1x1x64 (id (constant S_ .f32 0x7FC00000#32)))

/-- the normalised input, -/
def normal : FVec Ideal S2x1024x128x64 .f32 :=
  Host.divf (deviations x) (broadcastInDim S2x1024x128x64 ![0, 1, 2, 3] bcast_S2x1x1x64_S2x1024x128x64_0_1_2_3 (Host.sqrt (addf (variances x) (broadcastInDim S2x1x1x64 ![] bcast_S_S2x1x1x64 (constant S_ .f32 0x3727C5AC#32)))))

/-- and the result: the activated rows times `Wp`. -/
def product (h : FVec Ideal S2x1024x128x64 .f32) (w : FVec Ideal S64x128 .f32) : FVec Ideal S2x1024x128x128 .f32 :=
  shapeCast _ (Host.dotGeneral dot_S262144x64_S64x128_S262144x128_1_0_0_1_n_n none (shapeCast _ (Host.divf h (addf (broadcastInDim S2x1024x128x64 ![] bcast_S_S2x1024x128x64 (constant S_ .f32 0x3F800000#32)) (Host.exp (Host.negf h)))) shapeCasts_S2x1024x128x64_S262144x64) w) shapeCasts_S262144x128_S2x1024x128x128

/-- The reference's composed value is these in turn. -/
theorem res_eq (m : (ℓ : Loc nD τ sig) → Buf (Elt Ideal) ℓ) (c : Dev nD) :
    res_main_v19 m c = product (normal (m (c.tc.loc main_arg0))) (m (c.tc.loc main_arg1)) := rfl

/-- The mean at a channel. -/
theorem means_at (b : Fin 2) (ch : Fin 64) : means x (ix4 b 0 0 ch) = Scalars.mean fun n l => x (ix4 b n l ch) := by
  unfold means Scalars.mean Scalars.count
  pointwise
  rw [host_reduce_middle, zero_add]

/-- A deviation. -/
theorem deviations_at (b : Fin 2) (n : Fin 1024) (l : Fin 128) (ch : Fin 64) :
    deviations x (ix4 b n l ch) = x (ix4 b n l ch) - Scalars.mean fun n l => x (ix4 b n l ch) := by
  unfold deviations
  pointwise [means_at]

/-- The variance divides by the number of elements, and that is positive. -/
theorem degrees_at (i : S_.Idx) : degrees i = Scalars.count := by
  have e : degrees i = Scalars.count - (Scalar.sitofp .f32 0#32 : Ideal .f32) := rfl
  have z : (Scalar.sitofp .f32 0#32 : Ideal .f32) = 0 := by simp
  rw [e, z, sub_zero]

/-- The variance is the mean square deviation. -/
theorem variances_at (b : Fin 2) (ch : Fin 64) : variances x (ix4 b 0 0 ch)
    = Ideal.div (∑ n, ∑ l, (x (ix4 b n l ch) - Scalars.mean fun n l => x (ix4 b n l ch)) * (x (ix4 b n l ch) - Scalars.mean fun n l => x (ix4 b n l ch))) Scalars.count := by
  unfold variances
  pointwise [degrees_at]
  have hpos : (0 : EReal) < Scalars.count := by rw [Scalars.count_eq]; exact_mod_cast (by norm_num : (0 : ℝ) < 131072)
  rw [if_pos hpos, host_reduce_middle, zero_add]
  refine congrArg (Ideal.div · Scalars.count) (Finset.sum_congr rfl fun n _ => Finset.sum_congr rfl fun l _ => ?_)
  rw [← deviations_at]
  rfl

/-- A normalised element. -/
theorem normal_at (b : Fin 2) (n : Fin 1024) (l : Fin 128) (ch : Fin 64) : normal x (ix4 b n l ch)
    = Ideal.div (x (ix4 b n l ch) - Scalars.mean fun n l => x (ix4 b n l ch)) (Scalars.spread fun n l => x (ix4 b n l ch)) := by
  unfold normal Scalars.spread Scalars.eps
  pointwise [deviations_at, variances_at]

/-- An element of the product: over the channels, the activated elements of the row times `Wp`'s column. -/
theorem product_at (h : FVec Ideal S2x1024x128x64 .f32) (w : FVec Ideal S64x128 .f32) (b : Fin 2) (n : Fin 1024) (l : Fin 128) (o : Fin 128) :
    product h w (ix4 b n l o) = ∑ ch : Fin 64, Scalars.quotient (h (ix4 b n l ch)) * w (ix2 ch o) := by
  unfold product Scalars.quotient
  pointwise

/-- The reference's result at an index. -/
theorem result_at (m : (ℓ : Loc nD τ sig) → Buf (Elt Ideal) ℓ) (c : Dev nD) (b : Fin 2) (n : Fin 1024) (l : Fin 128) (o : Fin 128) :
    (res_main_v19 m c : S2x1024x128x128.Idx → EReal) (ix4 b n l o)
      = result (fun b n l ch => (m (c.tc.loc main_arg0) : S2x1024x128x64.Idx → EReal) (ix4 b n l ch)) (m (c.tc.loc main_arg1)) b n l o := by
  rw [res_eq, product_at]
  simp only [normal_at]
  rfl

end Cert.ReferenceIdeal.Value

end
-- ==== Proof.Agree.lean ====
/-
  The value claim: from finite blocks of `x`, each device's result is its block of the reference's.
-/
module

public import proofs.«01_k».proof.Defs
public import proofs.«01_k».proof.Proof.PageKernelIdeal
public import proofs.«01_k».proof.Proof.LaunchKernelIdeal
public import proofs.«01_k».proof.Proof.WholeReferenceIdeal
public import Idealize.ShloMosaic.Lib.ReduceAll

@[expose] public section

noncomputable section

namespace Cert.Agree

open Idealize.ShloMosaic Idealize.SL.Sem

/-! ## The precondition -/

/-- The shapes of the precondition fit, over a block and over the whole array. -/
theorem pre_facts : Cert.Pre_x_finite_KernelIdeal.Facts := by
  constructor <;> decide
/-- So they do over the whole array. -/
theorem whole_pre_facts : Cert.Pre_x_finite_ReferenceIdeal.Facts := by
  constructor <;> decide

attribute [local instance] pre_facts

/-- A number whose absolute value is below the pattern of infinity is finite. -/
theorem finite_of_below (y : EReal) (h : Ideal.cmp .olt (max y (-y)) (Ideal.ofBits .f32 0x7F800000#32) = 1#1) : ∃ r : ℝ, y = (r : EReal) := by
  have ht : Ideal.ofBits .f32 0x7F800000#32 = ⊤ := by simp [Ideal.ofBits, Ideal.ieee]
  rw [ht] at h
  induction y with
  | bot => simp [Ideal.cmp] at h
  | coe r => exact ⟨r, rfl⟩
  | top => simp [Ideal.cmp] at h

/-- Where the precondition holds of a block, every element of it is finite. -/
theorem finite_of_pre (x : FVec Ideal ⟨4, ![2, 128, 128, 64]⟩ .f32) (w : FVec Ideal ⟨2, ![64, 128]⟩ .f32)
    (h : Cert.Pre_x_finite_KernelIdeal.fn (F := Ideal) x w = fun _ => 1#1) (i : (⟨4, ![2, 128, 128, 64]⟩ : Shape).Idx) :
    ∃ r : ℝ, x i = (r : EReal) := by
  haveI : Subsingleton Cert.Pre_x_finite_KernelIdeal.S_.Idx := ⟨fun a b => funext fun z => z.elim0⟩
  exact finite_of_below _ (Host.reduce_andi_all _ _ _ _ ix0 (congrFun h ix0) i)

/-! ## The two results -/

/-- Of a finite input the kernel's elements are the reference's. -/
theorem result_eq (X : Fin 2 → Fin 1024 → Fin 128 → Fin 64 → EReal) (hX : ∀ b n l ch, ∃ r : ℝ, X b n l ch = (r : EReal))
    (W : (⟨2, ![64, 128]⟩ : Shape).Idx → EReal) (b : Fin 2) (n : Fin 1024) (l o : Fin 128) :
    Cert.KernelIdeal.Exchange.result X W b n l o = Cert.ReferenceIdeal.Value.result X W b n l o :=
  Finset.sum_congr rfl fun ch _ => congrArg (· * W (ix2 ch o)) (Scalars.activation _ (fun n l => hX b n l ch) n l)

/-- A row of the whole is a row of some device's block. -/
theorem row_of_device (n : Fin 1024) : ∃ c k, n = Cert.KernelIdeal.Exchange.wholeRow c k :=
  ⟨⟨n.val / 128, by omega⟩, ⟨n.val % 128, by omega⟩, Fin.ext (Nat.div_add_mod _ _).symm⟩

/-- Where an index of device `c`'s block of an array cut along axis 1 lies in the whole. -/
theorem place {w : Nat} (h : Layout.Tiles ⟨4, ![2, 128, 128, w]⟩ ⟨4, ![2, 1024, 128, w]⟩ 1 8) (c : Fin 8) (b : Fin 2) (n l : Fin 128) (o : Fin w) :
    h.idx c (ix4 b n l o) = ix4 b (Cert.KernelIdeal.Exchange.wholeRow c n) l o := by
  funext a
  apply Fin.ext
  rw [Layout.Tiles.idx_val]
  fin_cases a
  · rfl
  · exact congrArg (· + n.val) (Nat.mul_comm _ _)
  · rfl
  · rfl

/-- The reference's input, by its coordinates. -/
def whole (m' : (ℓ : Loc Cert.ReferenceIdeal.nD Cert.ReferenceIdeal.τ Cert.ReferenceIdeal.sig) → Buf (Elt Ideal) ℓ)
    (b : Fin 2) (n : Fin 1024) (l : Fin 128) (ch : Fin 64) : EReal :=
  (m' ((0 : Dev Cert.ReferenceIdeal.nD).tc.loc Cert.ReferenceIdeal.main_arg0) : (⟨4, ![2, 1024, 128, 64]⟩ : Shape).Idx → EReal) (ix4 b n l ch)

/-- The kernel on eight devices and the reference on one agree. -/
theorem agrees : Cert.algebraic_KernelIdeal_ReferenceIdeal_pre_x_finite_KernelIdeal := by
  intro m g m' g' hpre hargs
  refine ⟨Cert.ReferenceIdeal.Value.res_main_v19 m' 0, ?_, ?_⟩
  · refine (θ_run Cert.KernelIdeal.defs _ _).mono (fun r h c => ?_) (Cert.KernelIdeal.Exchange.run_main m g)
    obtain ⟨h0, h1, hk⟩ := h.1 c
    refine ⟨?_, h0, h1⟩
    have hX : ∀ (c : Dev Cert.KernelIdeal.nD) b n l ch,
        Cert.KernelIdeal.Exchange.block m c b n l ch = whole m' b (Cert.KernelIdeal.Exchange.wholeRow c n) l ch := by
      intro c b n l ch
      refine (congrFun (hargs c).1 (ix4 b n l ch)).trans ?_
      exact congrArg (m' ((0 : Dev Cert.ReferenceIdeal.nD).tc.loc Cert.ReferenceIdeal.main_arg0)) (place _ c b n l ch)
    have hfin : ∀ b n l ch, ∃ r : ℝ, whole m' b n l ch = (r : EReal) := by
      intro b n l ch
      obtain ⟨d, k, rfl⟩ := row_of_device n
      obtain ⟨r, hr⟩ := finite_of_pre _ _ (hpre d) (ix4 b k l ch)
      exact ⟨r, (hX d b k l ch).symm.trans hr⟩
    refine funext fun (i : (⟨4, ![2, 128, 128, 128]⟩ : Shape).Idx) => ?_
    obtain ⟨b, n, l, o, rfl⟩ : ∃ (b : Fin 2) (n l o : Fin 128), i = ix4 b n l o := ⟨_, _, _, _, ValueIdx.eq_ix4 i⟩
    refine (Cert.KernelIdeal.Exchange.block_of_pages m (whole m') hX c _ _ hk b n l o).trans ?_
    rw [result_eq _ hfin, Cert.KernelIdeal.Exchange.staged_eq]
    refine (congrArg (Cert.ReferenceIdeal.Value.result _ · b (Cert.KernelIdeal.Exchange.wholeRow c n) l o) (hargs c).2).trans ?_
    refine (Cert.ReferenceIdeal.Value.result_at m' 0 b _ l o).symm.trans ?_
    exact (congrArg (Cert.ReferenceIdeal.Value.res_main_v19 m' 0) (place _ c b n l o)).symm
  · exact (θ_run Cert.ReferenceIdeal.defs _ _).mono (fun r h => h 0) (Cert.ReferenceIdeal.Value.run m' g')

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.LaunchKernel
public import proofs.«01_k».proof.Proof.LaunchKernelIdeal
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs on the words of its floats, leaves its arguments and ends with every counter at zero. -/
theorem kernel_frame : Cert.quiescent_Kernel := fun m ρ _ =>
  (θ_run Cert.Kernel.defs _ _).mono (fun _ h => ⟨fun c => ⟨(h.1 c).1, (h.1 c).2.1⟩, h.2⟩) (Cert.Kernel.Exchange.run_main m ρ)

/-- So does its idealization, on the extended reals. -/
theorem ideal_frame : Cert.quiescent_KernelIdeal := fun m ρ _ =>
  (θ_run Cert.KernelIdeal.defs _ _).mono (fun _ h => ⟨fun c => ⟨(h.1 c).1, (h.1 c).2.1⟩, h.2⟩) (Cert.KernelIdeal.Exchange.run_main m ρ)

/-- The reference, which has no counter, runs and leaves its arguments. -/
theorem reference_frame : Cert.quiescent_ReferenceIdeal := fun m ρ _ =>
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run m ρ)

theorem claim : Cert.Claim :=
  ⟨Cert.Kernel.Gen.facts, Cert.KernelIdeal.Gen.facts, Cert.ReferenceIdeal.Gen.facts, Cert.Agree.pre_facts, Cert.Agree.whole_pre_facts,
    kernel_frame, ideal_frame, fun m ρ _ => ideal_frame m ρ trivial, reference_frame, fun m ρ _ => reference_frame m ρ trivial,
    trivial, Cert.Agree.agrees⟩

end Cert.Proof

end
